-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x4608 : Shape := ⟨3, ![4, 1024, 4608]⟩
abbrev S4608x1024 : Shape := ⟨2, ![4608, 1024]⟩
abbrev S72x2048 : Shape := ⟨2, ![72, 2048]⟩
abbrev S4608x64 : Shape := ⟨2, ![4608, 64]⟩
abbrev S64x2048 : Shape := ⟨2, ![64, 2048]⟩
abbrev S4096x4608 : Shape := ⟨2, ![4096, 4608]⟩
abbrev S64x4608 : Shape := ⟨2, ![64, 4608]⟩
abbrev S4096x2048 : Shape := ⟨2, ![4096, 2048]⟩
abbrev S4096x2304 : Shape := ⟨2, ![4096, 2304]⟩
abbrev S4x72x1024 : Shape := ⟨3, ![4, 72, 1024]⟩
abbrev S256x4608 : Shape := ⟨2, ![256, 4608]⟩
abbrev S256x2048 : Shape := ⟨2, ![256, 2048]⟩
abbrev S256x2304 : Shape := ⟨2, ![256, 2304]⟩
abbrev S1x72x256 : Shape := ⟨3, ![1, 72, 256]⟩
abbrev S4608x2048 : Shape := ⟨2, ![4608, 2048]⟩
abbrev S256x128 : Shape := ⟨2, ![256, 128]⟩
abbrev S16x128 : Shape := ⟨2, ![16, 128]⟩
abbrev S8x256 : Shape := ⟨2, ![8, 256]⟩
abbrev S64x128 : Shape := ⟨2, ![64, 128]⟩
abbrev S16x128x1 : Shape := ⟨3, ![16, 128, 1]⟩
abbrev S1x128 : Shape := ⟨2, ![1, 128]⟩
abbrev S8x128 : Shape := ⟨2, ![8, 128]⟩
abbrev S8x128x1 : Shape := ⟨3, ![8, 128, 1]⟩
abbrev S32x128 : Shape := ⟨2, ![32, 128]⟩
abbrev S128x256 : Shape := ⟨2, ![128, 256]⟩
abbrev S72x256 : Shape := ⟨2, ![72, 256]⟩
abbrev S64x256 : Shape := ⟨2, ![64, 256]⟩
abbrev S256x64 : Shape := ⟨2, ![256, 64]⟩
abbrev S4608x512 : Shape := ⟨2, ![4608, 512]⟩
abbrev S256x512 : Shape := ⟨2, ![256, 512]⟩
abbrev S64x512 : Shape := ⟨2, ![64, 512]⟩

abbrev nBuf : Space → Nat
  | .hbm => 11
  | .vmem => 17
  | .smem => 0
  | _ => 0

abbrev bufTy : (tb : Table) → Fin (tcTables nBuf tb) → BufTy
  | .hbm, ⟨0, _⟩ => ⟨S4x1024x4608, .bf16⟩
  | .hbm, ⟨1, _⟩ => ⟨S4608x1024, .i8⟩
  | .hbm, ⟨2, _⟩ => ⟨S72x2048, .f32⟩
  | .hbm, ⟨3, _⟩ => ⟨S72x2048, .bf16⟩
  | .hbm, ⟨4, _⟩ => ⟨S4608x64, .bf16⟩
  | .hbm, ⟨5, _⟩ => ⟨S64x2048, .bf16⟩
  | .hbm, ⟨6, _⟩ => ⟨S4096x4608, .bf16⟩
  | .hbm, ⟨7, _⟩ => ⟨S64x4608, .bf16⟩
  | .hbm, ⟨8, _⟩ => ⟨S4096x2048, .bf16⟩
  | .hbm, ⟨9, _⟩ => ⟨S4096x2304, .i8⟩
  | .hbm, ⟨10, _⟩ => ⟨S4x72x1024, .f32⟩
  | .local _ .vmem, ⟨0, _⟩ => ⟨S256x4608, .bf16⟩
  | .local _ .vmem, ⟨1, _⟩ => ⟨S256x4608, .bf16⟩
  | .local _ .vmem, ⟨2, _⟩ => ⟨S4608x1024, .i8⟩
  | .local _ .vmem, ⟨3, _⟩ => ⟨S72x2048, .f32⟩
  | .local _ .vmem, ⟨4, _⟩ => ⟨S72x2048, .bf16⟩
  | .local _ .vmem, ⟨5, _⟩ => ⟨S64x4608, .bf16⟩
  | .local _ .vmem, ⟨6, _⟩ => ⟨S64x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2304, .i8⟩
  | .local _ .vmem, ⟨10, _⟩ => ⟨S256x2304, .i8⟩
  | .local _ .vmem, ⟨11, _⟩ => ⟨S1x72x256, .f32⟩
  | .local _ .vmem, ⟨12, _⟩ => ⟨S1x72x256, .f32⟩
  | .local _ .vmem, ⟨13, _⟩ => ⟨S4608x2048, .bf16⟩
  | .local _ .vmem, ⟨14, _⟩ => ⟨S72x2048, .f32⟩
  | .local _ .vmem, ⟨15, _⟩ => ⟨S256x4608, .bf16⟩
  | .local _ .vmem, ⟨16, _⟩ => ⟨S256x128, .f32⟩
  | _, _ => ⟨S4x1024x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_50 : BitVec 32 := 0#32
  let c9_i32 : BitVec 32 := 9#32
  let v56 : BitVec 32 := Scalar.addi c0_i32_50 c9_i32
  let c1_i32_51 : BitVec 32 := 1#32
  ⟨c0_i32_50, v56, c1_i32_51⟩
def k0_mult1 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  v57
def k0_off1 (k0_t1 : Fin k0_t1_loop.trips) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v59 : Index := Scalar.indexCast v58
  let c0_54 : Index := 0#32
  ![v59.toNat, 0]
def k0_mult2 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c0_i32_56 : BitVec 32 := 0#32
  let v64 : BitVec 32 := Scalar.addi v58 c0_i32_56
  let c64_i32 : BitVec 32 := 64#32
  let v65 : BitVec 32 := Scalar.muli v64 c64_i32
  v65
def k0_off2 (k0_t1 : Fin k0_t1_loop.trips) (c0_i32_56 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v64 : BitVec 32 := Scalar.addi v58 c0_i32_56
  let c64_i32 : BitVec 32 := 64#32
  let v65 : BitVec 32 := Scalar.muli v64 c64_i32
  let v66 : BitVec 32 := v65
  let v67 : Index := Scalar.indexCast v66
  let c0_57 : Index := 0#32
  ![v67.toNat, 0]
def k0_off3 (k0_t1 : Fin k0_t1_loop.trips) (c0_i32_56 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v64 : BitVec 32 := Scalar.addi v58 c0_i32_56
  let c64_i32 : BitVec 32 := 64#32
  let v65 : BitVec 32 := Scalar.muli v64 c64_i32
  let v66 : BitVec 32 := v65
  let v95 : Index := Scalar.indexCast v66
  let c0_60 : Index := 0#32
  ![v95.toNat, 0]
def k0_off4 (k0_t1 : Fin k0_t1_loop.trips) (c0_i32_56 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v64 : BitVec 32 := Scalar.addi v58 c0_i32_56
  let c64_i32 : BitVec 32 := 64#32
  let v65 : BitVec 32 := Scalar.muli v64 c64_i32
  let v66 : BitVec 32 := v65
  let v124 : Index := Scalar.indexCast v66
  let c128 : Index := 128#32
  ![v124.toNat, 128]
def k0_mult3 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c1_i32_65 : BitVec 32 := 1#32
  let v128 : BitVec 32 := Scalar.addi v58 c1_i32_65
  let c64_i32_66 : BitVec 32 := 64#32
  let v129 : BitVec 32 := Scalar.muli v128 c64_i32_66
  v129
def k0_mult4 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c2_i32_78 : BitVec 32 := 2#32
  let v192 : BitVec 32 := Scalar.addi v58 c2_i32_78
  let c64_i32_79 : BitVec 32 := 64#32
  let v193 : BitVec 32 := Scalar.muli v192 c64_i32_79
  v193
def k0_mult5 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c3_i32 : BitVec 32 := 3#32
  let v256 : BitVec 32 := Scalar.addi v58 c3_i32
  let c64_i32_91 : BitVec 32 := 64#32
  let v257 : BitVec 32 := Scalar.muli v256 c64_i32_91
  v257
def k0_mult6 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c4_i32 : BitVec 32 := 4#32
  let v320 : BitVec 32 := Scalar.addi v58 c4_i32
  let c64_i32_103 : BitVec 32 := 64#32
  let v321 : BitVec 32 := Scalar.muli v320 c64_i32_103
  v321
def k0_mult7 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c5_i32 : BitVec 32 := 5#32
  let v384 : BitVec 32 := Scalar.addi v58 c5_i32
  let c64_i32_115 : BitVec 32 := 64#32
  let v385 : BitVec 32 := Scalar.muli v384 c64_i32_115
  v385
def k0_mult8 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c6_i32 : BitVec 32 := 6#32
  let v448 : BitVec 32 := Scalar.addi v58 c6_i32
  let c64_i32_127 : BitVec 32 := 64#32
  let v449 : BitVec 32 := Scalar.muli v448 c64_i32_127
  v449
def k0_mult9 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c7_i32 : BitVec 32 := 7#32
  let v512 : BitVec 32 := Scalar.addi v58 c7_i32
  let c64_i32_139 : BitVec 32 := 64#32
  let v513 : BitVec 32 := Scalar.muli v512 c64_i32_139
  v513
def k0_off5 (k0_t1 : Fin k0_t1_loop.trips) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v576 : Index := Scalar.indexCast v58
  let c256 : Index := 256#32
  ![v576.toNat, 256]
def k0_mult10 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c0_i32_152 : BitVec 32 := 0#32
  let v581 : BitVec 32 := Scalar.addi v58 c0_i32_152
  let c64_i32_153 : BitVec 32 := 64#32
  let v582 : BitVec 32 := Scalar.muli v581 c64_i32_153
  v582
def k0_off6 (k0_t1 : Fin k0_t1_loop.trips) (c0_i32_152 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v581 : BitVec 32 := Scalar.addi v58 c0_i32_152
  let c64_i32_153 : BitVec 32 := 64#32
  let v582 : BitVec 32 := Scalar.muli v581 c64_i32_153
  let v583 : BitVec 32 := v582
  let v584 : Index := Scalar.indexCast v583
  let c128_154 : Index := 128#32
  ![v584.toNat, 128]
def k0_off7 (k0_t1 : Fin k0_t1_loop.trips) (c0_i32_152 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v581 : BitVec 32 := Scalar.addi v58 c0_i32_152
  let c64_i32_153 : BitVec 32 := 64#32
  let v582 : BitVec 32 := Scalar.muli v581 c64_i32_153
  let v583 : BitVec 32 := v582
  let v612 : Index := Scalar.indexCast v583
  let c256_159 : Index := 256#32
  ![v612.toNat, 256]
def k0_off8 (k0_t1 : Fin k0_t1_loop.trips) (c0_i32_152 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v581 : BitVec 32 := Scalar.addi v58 c0_i32_152
  let c64_i32_153 : BitVec 32 := 64#32
  let v582 : BitVec 32 := Scalar.muli v581 c64_i32_153
  let v583 : BitVec 32 := v582
  let v641 : Index := Scalar.indexCast v583
  let c384 : Index := 384#32
  ![v641.toNat, 384]
def k0_mult11 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c1_i32_164 : BitVec 32 := 1#32
  let v645 : BitVec 32 := Scalar.addi v58 c1_i32_164
  let c64_i32_165 : BitVec 32 := 64#32
  let v646 : BitVec 32 := Scalar.muli v645 c64_i32_165
  v646
def k0_mult12 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c2_i32_177 : BitVec 32 := 2#32
  let v709 : BitVec 32 := Scalar.addi v58 c2_i32_177
  let c64_i32_178 : BitVec 32 := 64#32
  let v710 : BitVec 32 := Scalar.muli v709 c64_i32_178
  v710
def k0_mult13 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c3_i32_190 : BitVec 32 := 3#32
  let v773 : BitVec 32 := Scalar.addi v58 c3_i32_190
  let c64_i32_191 : BitVec 32 := 64#32
  let v774 : BitVec 32 := Scalar.muli v773 c64_i32_191
  v774
def k0_mult14 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c4_i32_203 : BitVec 32 := 4#32
  let v837 : BitVec 32 := Scalar.addi v58 c4_i32_203
  let c64_i32_204 : BitVec 32 := 64#32
  let v838 : BitVec 32 := Scalar.muli v837 c64_i32_204
  v838
def k0_mult15 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c5_i32_216 : BitVec 32 := 5#32
  let v901 : BitVec 32 := Scalar.addi v58 c5_i32_216
  let c64_i32_217 : BitVec 32 := 64#32
  let v902 : BitVec 32 := Scalar.muli v901 c64_i32_217
  v902
def k0_mult16 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c6_i32_229 : BitVec 32 := 6#32
  let v965 : BitVec 32 := Scalar.addi v58 c6_i32_229
  let c64_i32_230 : BitVec 32 := 64#32
  let v966 : BitVec 32 := Scalar.muli v965 c64_i32_230
  v966
def k0_mult17 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c7_i32_242 : BitVec 32 := 7#32
  let v1029 : BitVec 32 := Scalar.addi v58 c7_i32_242
  let c64_i32_243 : BitVec 32 := 64#32
  let v1030 : BitVec 32 := Scalar.muli v1029 c64_i32_243
  v1030
def k0_off9 (k0_t1 : Fin k0_t1_loop.trips) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v1093 : Index := Scalar.indexCast v58
  let c512_255 : Index := 512#32
  ![v1093.toNat, 512]
def k0_mult18 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c0_i32_257 : BitVec 32 := 0#32
  let v1098 : BitVec 32 := Scalar.addi v58 c0_i32_257
  let c64_i32_258 : BitVec 32 := 64#32
  let v1099 : BitVec 32 := Scalar.muli v1098 c64_i32_258
  v1099
def k0_off10 (k0_t1 : Fin k0_t1_loop.trips) (c0_i32_257 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v1098 : BitVec 32 := Scalar.addi v58 c0_i32_257
  let c64_i32_258 : BitVec 32 := 64#32
  let v1099 : BitVec 32 := Scalar.muli v1098 c64_i32_258
  let v1100 : BitVec 32 := v1099
  let v1101 : Index := Scalar.indexCast v1100
  let c256_259 : Index := 256#32
  ![v1101.toNat, 256]
def k0_off11 (k0_t1 : Fin k0_t1_loop.trips) (c0_i32_257 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v1098 : BitVec 32 := Scalar.addi v58 c0_i32_257
  let c64_i32_258 : BitVec 32 := 64#32
  let v1099 : BitVec 32 := Scalar.muli v1098 c64_i32_258
  let v1100 : BitVec 32 := v1099
  let v1129 : Index := Scalar.indexCast v1100
  let c512_264 : Index := 512#32
  ![v1129.toNat, 512]
def k0_off12 (k0_t1 : Fin k0_t1_loop.trips) (c0_i32_257 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v1098 : BitVec 32 := Scalar.addi v58 c0_i32_257
  let c64_i32_258 : BitVec 32 := 64#32
  let v1099 : BitVec 32 := Scalar.muli v1098 c64_i32_258
  let v1100 : BitVec 32 := v1099
  let v1158 : Index := Scalar.indexCast v1100
  let c640 : Index := 640#32
  ![v1158.toNat, 640]
def k0_mult19 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c1_i32_269 : BitVec 32 := 1#32
  let v1162 : BitVec 32 := Scalar.addi v58 c1_i32_269
  let c64_i32_270 : BitVec 32 := 64#32
  let v1163 : BitVec 32 := Scalar.muli v1162 c64_i32_270
  v1163
def k0_mult20 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c2_i32_282 : BitVec 32 := 2#32
  let v1226 : BitVec 32 := Scalar.addi v58 c2_i32_282
  let c64_i32_283 : BitVec 32 := 64#32
  let v1227 : BitVec 32 := Scalar.muli v1226 c64_i32_283
  v1227
def k0_mult21 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c3_i32_295 : BitVec 32 := 3#32
  let v1290 : BitVec 32 := Scalar.addi v58 c3_i32_295
  let c64_i32_296 : BitVec 32 := 64#32
  let v1291 : BitVec 32 := Scalar.muli v1290 c64_i32_296
  v1291
def k0_mult22 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c4_i32_308 : BitVec 32 := 4#32
  let v1354 : BitVec 32 := Scalar.addi v58 c4_i32_308
  let c64_i32_309 : BitVec 32 := 64#32
  let v1355 : BitVec 32 := Scalar.muli v1354 c64_i32_309
  v1355
def k0_mult23 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c5_i32_321 : BitVec 32 := 5#32
  let v1418 : BitVec 32 := Scalar.addi v58 c5_i32_321
  let c64_i32_322 : BitVec 32 := 64#32
  let v1419 : BitVec 32 := Scalar.muli v1418 c64_i32_322
  v1419
def k0_mult24 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c6_i32_334 : BitVec 32 := 6#32
  let v1482 : BitVec 32 := Scalar.addi v58 c6_i32_334
  let c64_i32_335 : BitVec 32 := 64#32
  let v1483 : BitVec 32 := Scalar.muli v1482 c64_i32_335
  v1483
def k0_mult25 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c7_i32_347 : BitVec 32 := 7#32
  let v1546 : BitVec 32 := Scalar.addi v58 c7_i32_347
  let c64_i32_348 : BitVec 32 := 64#32
  let v1547 : BitVec 32 := Scalar.muli v1546 c64_i32_348
  v1547
def k0_off13 (k0_t1 : Fin k0_t1_loop.trips) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v1610 : Index := Scalar.indexCast v58
  let c768 : Index := 768#32
  ![v1610.toNat, 768]
def k0_mult26 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c0_i32_361 : BitVec 32 := 0#32
  let v1615 : BitVec 32 := Scalar.addi v58 c0_i32_361
  let c64_i32_362 : BitVec 32 := 64#32
  let v1616 : BitVec 32 := Scalar.muli v1615 c64_i32_362
  v1616
def k0_off14 (k0_t1 : Fin k0_t1_loop.trips) (c0_i32_361 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v1615 : BitVec 32 := Scalar.addi v58 c0_i32_361
  let c64_i32_362 : BitVec 32 := 64#32
  let v1616 : BitVec 32 := Scalar.muli v1615 c64_i32_362
  let v1617 : BitVec 32 := v1616
  let v1618 : Index := Scalar.indexCast v1617
  let c384_363 : Index := 384#32
  ![v1618.toNat, 384]
def k0_off15 (k0_t1 : Fin k0_t1_loop.trips) (c0_i32_361 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v1615 : BitVec 32 := Scalar.addi v58 c0_i32_361
  let c64_i32_362 : BitVec 32 := 64#32
  let v1616 : BitVec 32 := Scalar.muli v1615 c64_i32_362
  let v1617 : BitVec 32 := v1616
  let v1646 : Index := Scalar.indexCast v1617
  let c768_368 : Index := 768#32
  ![v1646.toNat, 768]
def k0_off16 (k0_t1 : Fin k0_t1_loop.trips) (c0_i32_361 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v1615 : BitVec 32 := Scalar.addi v58 c0_i32_361
  let c64_i32_362 : BitVec 32 := 64#32
  let v1616 : BitVec 32 := Scalar.muli v1615 c64_i32_362
  let v1617 : BitVec 32 := v1616
  let v1675 : Index := Scalar.indexCast v1617
  let c896 : Index := 896#32
  ![v1675.toNat, 896]
def k0_mult27 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c1_i32_373 : BitVec 32 := 1#32
  let v1679 : BitVec 32 := Scalar.addi v58 c1_i32_373
  let c64_i32_374 : BitVec 32 := 64#32
  let v1680 : BitVec 32 := Scalar.muli v1679 c64_i32_374
  v1680
def k0_mult28 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c2_i32_386 : BitVec 32 := 2#32
  let v1743 : BitVec 32 := Scalar.addi v58 c2_i32_386
  let c64_i32_387 : BitVec 32 := 64#32
  let v1744 : BitVec 32 := Scalar.muli v1743 c64_i32_387
  v1744
def k0_mult29 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c3_i32_399 : BitVec 32 := 3#32
  let v1807 : BitVec 32 := Scalar.addi v58 c3_i32_399
  let c64_i32_400 : BitVec 32 := 64#32
  let v1808 : BitVec 32 := Scalar.muli v1807 c64_i32_400
  v1808
def k0_mult30 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c4_i32_412 : BitVec 32 := 4#32
  let v1871 : BitVec 32 := Scalar.addi v58 c4_i32_412
  let c64_i32_413 : BitVec 32 := 64#32
  let v1872 : BitVec 32 := Scalar.muli v1871 c64_i32_413
  v1872
def k0_mult31 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c5_i32_425 : BitVec 32 := 5#32
  let v1935 : BitVec 32 := Scalar.addi v58 c5_i32_425
  let c64_i32_426 : BitVec 32 := 64#32
  let v1936 : BitVec 32 := Scalar.muli v1935 c64_i32_426
  v1936
def k0_mult32 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c6_i32_438 : BitVec 32 := 6#32
  let v1999 : BitVec 32 := Scalar.addi v58 c6_i32_438
  let c64_i32_439 : BitVec 32 := 64#32
  let v2000 : BitVec 32 := Scalar.muli v1999 c64_i32_439
  v2000
def k0_mult33 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c7_i32_451 : BitVec 32 := 7#32
  let v2063 : BitVec 32 := Scalar.addi v58 c7_i32_451
  let c64_i32_452 : BitVec 32 := 64#32
  let v2064 : BitVec 32 := Scalar.muli v2063 c64_i32_452
  v2064
def k0_off17 (k0_t1 : Fin k0_t1_loop.trips) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v2127 : Index := Scalar.indexCast v58
  let c1024_464 : Index := 1024#32
  ![v2127.toNat, 1024]
def k0_mult34 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c0_i32_466 : BitVec 32 := 0#32
  let v2132 : BitVec 32 := Scalar.addi v58 c0_i32_466
  let c64_i32_467 : BitVec 32 := 64#32
  let v2133 : BitVec 32 := Scalar.muli v2132 c64_i32_467
  v2133
def k0_off18 (k0_t1 : Fin k0_t1_loop.trips) (c0_i32_466 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v2132 : BitVec 32 := Scalar.addi v58 c0_i32_466
  let c64_i32_467 : BitVec 32 := 64#32
  let v2133 : BitVec 32 := Scalar.muli v2132 c64_i32_467
  let v2134 : BitVec 32 := v2133
  let v2135 : Index := Scalar.indexCast v2134
  let c512_468 : Index := 512#32
  ![v2135.toNat, 512]
def k0_off19 (k0_t1 : Fin k0_t1_loop.trips) (c0_i32_466 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v2132 : BitVec 32 := Scalar.addi v58 c0_i32_466
  let c64_i32_467 : BitVec 32 := 64#32
  let v2133 : BitVec 32 := Scalar.muli v2132 c64_i32_467
  let v2134 : BitVec 32 := v2133
  let v2163 : Index := Scalar.indexCast v2134
  let c1024_473 : Index := 1024#32
  ![v2163.toNat, 1024]
def k0_off20 (k0_t1 : Fin k0_t1_loop.trips) (c0_i32_466 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v2132 : BitVec 32 := Scalar.addi v58 c0_i32_466
  let c64_i32_467 : BitVec 32 := 64#32
  let v2133 : BitVec 32 := Scalar.muli v2132 c64_i32_467
  let v2134 : BitVec 32 := v2133
  let v2192 : Index := Scalar.indexCast v2134
  let c1152 : Index := 1152#32
  ![v2192.toNat, 1152]
def k0_mult35 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c1_i32_478 : BitVec 32 := 1#32
  let v2196 : BitVec 32 := Scalar.addi v58 c1_i32_478
  let c64_i32_479 : BitVec 32 := 64#32
  let v2197 : BitVec 32 := Scalar.muli v2196 c64_i32_479
  v2197
def k0_mult36 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c2_i32_491 : BitVec 32 := 2#32
  let v2260 : BitVec 32 := Scalar.addi v58 c2_i32_491
  let c64_i32_492 : BitVec 32 := 64#32
  let v2261 : BitVec 32 := Scalar.muli v2260 c64_i32_492
  v2261
def k0_mult37 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c3_i32_504 : BitVec 32 := 3#32
  let v2324 : BitVec 32 := Scalar.addi v58 c3_i32_504
  let c64_i32_505 : BitVec 32 := 64#32
  let v2325 : BitVec 32 := Scalar.muli v2324 c64_i32_505
  v2325
def k0_mult38 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c4_i32_517 : BitVec 32 := 4#32
  let v2388 : BitVec 32 := Scalar.addi v58 c4_i32_517
  let c64_i32_518 : BitVec 32 := 64#32
  let v2389 : BitVec 32 := Scalar.muli v2388 c64_i32_518
  v2389
def k0_mult39 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c5_i32_530 : BitVec 32 := 5#32
  let v2452 : BitVec 32 := Scalar.addi v58 c5_i32_530
  let c64_i32_531 : BitVec 32 := 64#32
  let v2453 : BitVec 32 := Scalar.muli v2452 c64_i32_531
  v2453
def k0_mult40 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c6_i32_543 : BitVec 32 := 6#32
  let v2516 : BitVec 32 := Scalar.addi v58 c6_i32_543
  let c64_i32_544 : BitVec 32 := 64#32
  let v2517 : BitVec 32 := Scalar.muli v2516 c64_i32_544
  v2517
def k0_mult41 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c7_i32_556 : BitVec 32 := 7#32
  let v2580 : BitVec 32 := Scalar.addi v58 c7_i32_556
  let c64_i32_557 : BitVec 32 := 64#32
  let v2581 : BitVec 32 := Scalar.muli v2580 c64_i32_557
  v2581
def k0_off21 (k0_t1 : Fin k0_t1_loop.trips) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v2644 : Index := Scalar.indexCast v58
  let c1280 : Index := 1280#32
  ![v2644.toNat, 1280]
def k0_mult42 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c0_i32_570 : BitVec 32 := 0#32
  let v2649 : BitVec 32 := Scalar.addi v58 c0_i32_570
  let c64_i32_571 : BitVec 32 := 64#32
  let v2650 : BitVec 32 := Scalar.muli v2649 c64_i32_571
  v2650
def k0_off22 (k0_t1 : Fin k0_t1_loop.trips) (c0_i32_570 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v2649 : BitVec 32 := Scalar.addi v58 c0_i32_570
  let c64_i32_571 : BitVec 32 := 64#32
  let v2650 : BitVec 32 := Scalar.muli v2649 c64_i32_571
  let v2651 : BitVec 32 := v2650
  let v2652 : Index := Scalar.indexCast v2651
  let c640_572 : Index := 640#32
  ![v2652.toNat, 640]
def k0_off23 (k0_t1 : Fin k0_t1_loop.trips) (c0_i32_570 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v2649 : BitVec 32 := Scalar.addi v58 c0_i32_570
  let c64_i32_571 : BitVec 32 := 64#32
  let v2650 : BitVec 32 := Scalar.muli v2649 c64_i32_571
  let v2651 : BitVec 32 := v2650
  let v2680 : Index := Scalar.indexCast v2651
  let c1280_577 : Index := 1280#32
  ![v2680.toNat, 1280]
def k0_off24 (k0_t1 : Fin k0_t1_loop.trips) (c0_i32_570 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v2649 : BitVec 32 := Scalar.addi v58 c0_i32_570
  let c64_i32_571 : BitVec 32 := 64#32
  let v2650 : BitVec 32 := Scalar.muli v2649 c64_i32_571
  let v2651 : BitVec 32 := v2650
  let v2709 : Index := Scalar.indexCast v2651
  let c1408 : Index := 1408#32
  ![v2709.toNat, 1408]
def k0_mult43 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c1_i32_582 : BitVec 32 := 1#32
  let v2713 : BitVec 32 := Scalar.addi v58 c1_i32_582
  let c64_i32_583 : BitVec 32 := 64#32
  let v2714 : BitVec 32 := Scalar.muli v2713 c64_i32_583
  v2714
def k0_mult44 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c2_i32_595 : BitVec 32 := 2#32
  let v2777 : BitVec 32 := Scalar.addi v58 c2_i32_595
  let c64_i32_596 : BitVec 32 := 64#32
  let v2778 : BitVec 32 := Scalar.muli v2777 c64_i32_596
  v2778
def k0_mult45 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c3_i32_608 : BitVec 32 := 3#32
  let v2841 : BitVec 32 := Scalar.addi v58 c3_i32_608
  let c64_i32_609 : BitVec 32 := 64#32
  let v2842 : BitVec 32 := Scalar.muli v2841 c64_i32_609
  v2842
def k0_mult46 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c4_i32_621 : BitVec 32 := 4#32
  let v2905 : BitVec 32 := Scalar.addi v58 c4_i32_621
  let c64_i32_622 : BitVec 32 := 64#32
  let v2906 : BitVec 32 := Scalar.muli v2905 c64_i32_622
  v2906
def k0_mult47 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c5_i32_634 : BitVec 32 := 5#32
  let v2969 : BitVec 32 := Scalar.addi v58 c5_i32_634
  let c64_i32_635 : BitVec 32 := 64#32
  let v2970 : BitVec 32 := Scalar.muli v2969 c64_i32_635
  v2970
def k0_mult48 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c6_i32_647 : BitVec 32 := 6#32
  let v3033 : BitVec 32 := Scalar.addi v58 c6_i32_647
  let c64_i32_648 : BitVec 32 := 64#32
  let v3034 : BitVec 32 := Scalar.muli v3033 c64_i32_648
  v3034
def k0_mult49 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c7_i32_660 : BitVec 32 := 7#32
  let v3097 : BitVec 32 := Scalar.addi v58 c7_i32_660
  let c64_i32_661 : BitVec 32 := 64#32
  let v3098 : BitVec 32 := Scalar.muli v3097 c64_i32_661
  v3098
def k0_off25 (k0_t1 : Fin k0_t1_loop.trips) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v3161 : Index := Scalar.indexCast v58
  let c1536_673 : Index := 1536#32
  ![v3161.toNat, 1536]
def k0_mult50 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c0_i32_675 : BitVec 32 := 0#32
  let v3166 : BitVec 32 := Scalar.addi v58 c0_i32_675
  let c64_i32_676 : BitVec 32 := 64#32
  let v3167 : BitVec 32 := Scalar.muli v3166 c64_i32_676
  v3167
def k0_off26 (k0_t1 : Fin k0_t1_loop.trips) (c0_i32_675 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v3166 : BitVec 32 := Scalar.addi v58 c0_i32_675
  let c64_i32_676 : BitVec 32 := 64#32
  let v3167 : BitVec 32 := Scalar.muli v3166 c64_i32_676
  let v3168 : BitVec 32 := v3167
  let v3169 : Index := Scalar.indexCast v3168
  let c768_677 : Index := 768#32
  ![v3169.toNat, 768]
def k0_off27 (k0_t1 : Fin k0_t1_loop.trips) (c0_i32_675 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v3166 : BitVec 32 := Scalar.addi v58 c0_i32_675
  let c64_i32_676 : BitVec 32 := 64#32
  let v3167 : BitVec 32 := Scalar.muli v3166 c64_i32_676
  let v3168 : BitVec 32 := v3167
  let v3197 : Index := Scalar.indexCast v3168
  let c1536_682 : Index := 1536#32
  ![v3197.toNat, 1536]
def k0_off28 (k0_t1 : Fin k0_t1_loop.trips) (c0_i32_675 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v3166 : BitVec 32 := Scalar.addi v58 c0_i32_675
  let c64_i32_676 : BitVec 32 := 64#32
  let v3167 : BitVec 32 := Scalar.muli v3166 c64_i32_676
  let v3168 : BitVec 32 := v3167
  let v3226 : Index := Scalar.indexCast v3168
  let c1664 : Index := 1664#32
  ![v3226.toNat, 1664]
def k0_mult51 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c1_i32_687 : BitVec 32 := 1#32
  let v3230 : BitVec 32 := Scalar.addi v58 c1_i32_687
  let c64_i32_688 : BitVec 32 := 64#32
  let v3231 : BitVec 32 := Scalar.muli v3230 c64_i32_688
  v3231
def k0_mult52 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c2_i32_700 : BitVec 32 := 2#32
  let v3294 : BitVec 32 := Scalar.addi v58 c2_i32_700
  let c64_i32_701 : BitVec 32 := 64#32
  let v3295 : BitVec 32 := Scalar.muli v3294 c64_i32_701
  v3295
def k0_mult53 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c3_i32_713 : BitVec 32 := 3#32
  let v3358 : BitVec 32 := Scalar.addi v58 c3_i32_713
  let c64_i32_714 : BitVec 32 := 64#32
  let v3359 : BitVec 32 := Scalar.muli v3358 c64_i32_714
  v3359
def k0_mult54 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c4_i32_726 : BitVec 32 := 4#32
  let v3422 : BitVec 32 := Scalar.addi v58 c4_i32_726
  let c64_i32_727 : BitVec 32 := 64#32
  let v3423 : BitVec 32 := Scalar.muli v3422 c64_i32_727
  v3423
def k0_mult55 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c5_i32_739 : BitVec 32 := 5#32
  let v3486 : BitVec 32 := Scalar.addi v58 c5_i32_739
  let c64_i32_740 : BitVec 32 := 64#32
  let v3487 : BitVec 32 := Scalar.muli v3486 c64_i32_740
  v3487
def k0_mult56 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c6_i32_752 : BitVec 32 := 6#32
  let v3550 : BitVec 32 := Scalar.addi v58 c6_i32_752
  let c64_i32_753 : BitVec 32 := 64#32
  let v3551 : BitVec 32 := Scalar.muli v3550 c64_i32_753
  v3551
def k0_mult57 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c7_i32_765 : BitVec 32 := 7#32
  let v3614 : BitVec 32 := Scalar.addi v58 c7_i32_765
  let c64_i32_766 : BitVec 32 := 64#32
  let v3615 : BitVec 32 := Scalar.muli v3614 c64_i32_766
  v3615
def k0_off29 (k0_t1 : Fin k0_t1_loop.trips) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v3678 : Index := Scalar.indexCast v58
  let c1792 : Index := 1792#32
  ![v3678.toNat, 1792]
def k0_mult58 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c0_i32_779 : BitVec 32 := 0#32
  let v3683 : BitVec 32 := Scalar.addi v58 c0_i32_779
  let c64_i32_780 : BitVec 32 := 64#32
  let v3684 : BitVec 32 := Scalar.muli v3683 c64_i32_780
  v3684
def k0_off30 (k0_t1 : Fin k0_t1_loop.trips) (c0_i32_779 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v3683 : BitVec 32 := Scalar.addi v58 c0_i32_779
  let c64_i32_780 : BitVec 32 := 64#32
  let v3684 : BitVec 32 := Scalar.muli v3683 c64_i32_780
  let v3685 : BitVec 32 := v3684
  let v3686 : Index := Scalar.indexCast v3685
  let c896_781 : Index := 896#32
  ![v3686.toNat, 896]
def k0_off31 (k0_t1 : Fin k0_t1_loop.trips) (c0_i32_779 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v3683 : BitVec 32 := Scalar.addi v58 c0_i32_779
  let c64_i32_780 : BitVec 32 := 64#32
  let v3684 : BitVec 32 := Scalar.muli v3683 c64_i32_780
  let v3685 : BitVec 32 := v3684
  let v3714 : Index := Scalar.indexCast v3685
  let c1792_786 : Index := 1792#32
  ![v3714.toNat, 1792]
def k0_off32 (k0_t1 : Fin k0_t1_loop.trips) (c0_i32_779 : BitVec 32) : Fin 2 → Nat :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let v3683 : BitVec 32 := Scalar.addi v58 c0_i32_779
  let c64_i32_780 : BitVec 32 := 64#32
  let v3684 : BitVec 32 := Scalar.muli v3683 c64_i32_780
  let v3685 : BitVec 32 := v3684
  let v3743 : Index := Scalar.indexCast v3685
  let c1920 : Index := 1920#32
  ![v3743.toNat, 1920]
def k0_mult59 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c1_i32_791 : BitVec 32 := 1#32
  let v3747 : BitVec 32 := Scalar.addi v58 c1_i32_791
  let c64_i32_792 : BitVec 32 := 64#32
  let v3748 : BitVec 32 := Scalar.muli v3747 c64_i32_792
  v3748
def k0_mult60 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c2_i32_804 : BitVec 32 := 2#32
  let v3811 : BitVec 32 := Scalar.addi v58 c2_i32_804
  let c64_i32_805 : BitVec 32 := 64#32
  let v3812 : BitVec 32 := Scalar.muli v3811 c64_i32_805
  v3812
def k0_mult61 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c3_i32_817 : BitVec 32 := 3#32
  let v3875 : BitVec 32 := Scalar.addi v58 c3_i32_817
  let c64_i32_818 : BitVec 32 := 64#32
  let v3876 : BitVec 32 := Scalar.muli v3875 c64_i32_818
  v3876
def k0_mult62 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c4_i32_830 : BitVec 32 := 4#32
  let v3939 : BitVec 32 := Scalar.addi v58 c4_i32_830
  let c64_i32_831 : BitVec 32 := 64#32
  let v3940 : BitVec 32 := Scalar.muli v3939 c64_i32_831
  v3940
def k0_mult63 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c5_i32_843 : BitVec 32 := 5#32
  let v4003 : BitVec 32 := Scalar.addi v58 c5_i32_843
  let c64_i32_844 : BitVec 32 := 64#32
  let v4004 : BitVec 32 := Scalar.muli v4003 c64_i32_844
  v4004
def k0_mult64 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c6_i32_856 : BitVec 32 := 6#32
  let v4067 : BitVec 32 := Scalar.addi v58 c6_i32_856
  let c64_i32_857 : BitVec 32 := 64#32
  let v4068 : BitVec 32 := Scalar.muli v4067 c64_i32_857
  v4068
def k0_mult65 (k0_t1 : Fin k0_t1_loop.trips) : BitVec 32 :=
  let c0_i32_50 : BitVec 32 := 0#32
  let c1_i32_51 : BitVec 32 := 1#32
  let arg14 : BitVec 32 := Scf.iv c0_i32_50 c1_i32_51 k0_t1
  let c8_i32_53 : BitVec 32 := 8#32
  let v57 : BitVec 32 := Scalar.muli arg14 c8_i32_53
  let v58 : BitVec 32 := v57
  let c7_i32_869 : BitVec 32 := 7#32
  let v4131 : BitVec 32 := Scalar.addi v58 c7_i32_869
  let c64_i32_870 : BitVec 32 := 64#32
  let v4132 : BitVec 32 := Scalar.muli v4131 c64_i32_870
  v4132
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult66 (k0_t2 : Fin k0_t2_loop.trips) : BitVec 32 :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  v49
def k0_off33 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v93 : Index := Scalar.indexCast v90
  let c0_58 : Index := 0#32
  ![v93.toNat, 0]
def k0_off34 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v97 : Index := Scalar.indexCast v90
  let c128 : Index := 128#32
  ![v97.toNat, 128]
def k0_off35 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v101 : Index := Scalar.indexCast v90
  let c256 : Index := 256#32
  ![v101.toNat, 256]
def k0_off36 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v105 : Index := Scalar.indexCast v90
  let c384 : Index := 384#32
  ![v105.toNat, 384]
def k0_off37 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v109 : Index := Scalar.indexCast v90
  let c512_59 : Index := 512#32
  ![v109.toNat, 512]
def k0_off38 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v113 : Index := Scalar.indexCast v90
  let c640 : Index := 640#32
  ![v113.toNat, 640]
def k0_off39 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v117 : Index := Scalar.indexCast v90
  let c768 : Index := 768#32
  ![v117.toNat, 768]
def k0_off40 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v121 : Index := Scalar.indexCast v90
  let c896 : Index := 896#32
  ![v121.toNat, 896]
def k0_off41 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v125 : Index := Scalar.indexCast v90
  let c1024_60 : Index := 1024#32
  ![v125.toNat, 1024]
def k0_off42 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v129 : Index := Scalar.indexCast v90
  let c1152 : Index := 1152#32
  ![v129.toNat, 1152]
def k0_off43 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v133 : Index := Scalar.indexCast v90
  let c1280 : Index := 1280#32
  ![v133.toNat, 1280]
def k0_off44 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v137 : Index := Scalar.indexCast v90
  let c1408 : Index := 1408#32
  ![v137.toNat, 1408]
def k0_off45 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v141 : Index := Scalar.indexCast v90
  let c1536_61 : Index := 1536#32
  ![v141.toNat, 1536]
def k0_off46 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v145 : Index := Scalar.indexCast v90
  let c1664 : Index := 1664#32
  ![v145.toNat, 1664]
def k0_off47 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v149 : Index := Scalar.indexCast v90
  let c1792 : Index := 1792#32
  ![v149.toNat, 1792]
def k0_off48 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v153 : Index := Scalar.indexCast v90
  let c1920 : Index := 1920#32
  ![v153.toNat, 1920]
def k0_off49 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v157 : Index := Scalar.indexCast v90
  let c2048 : Index := 2048#32
  ![v157.toNat, 2048]
def k0_off50 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v161 : Index := Scalar.indexCast v90
  let c2176 : Index := 2176#32
  ![v161.toNat, 2176]
def k0_off51 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v165 : Index := Scalar.indexCast v90
  let c2304 : Index := 2304#32
  ![v165.toNat, 2304]
def k0_off52 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v169 : Index := Scalar.indexCast v90
  let c2432 : Index := 2432#32
  ![v169.toNat, 2432]
def k0_off53 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v173 : Index := Scalar.indexCast v90
  let c2560 : Index := 2560#32
  ![v173.toNat, 2560]
def k0_off54 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v177 : Index := Scalar.indexCast v90
  let c2688 : Index := 2688#32
  ![v177.toNat, 2688]
def k0_off55 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v181 : Index := Scalar.indexCast v90
  let c2816 : Index := 2816#32
  ![v181.toNat, 2816]
def k0_off56 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v185 : Index := Scalar.indexCast v90
  let c2944 : Index := 2944#32
  ![v185.toNat, 2944]
def k0_off57 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v189 : Index := Scalar.indexCast v90
  let c3072 : Index := 3072#32
  ![v189.toNat, 3072]
def k0_off58 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v193 : Index := Scalar.indexCast v90
  let c3200 : Index := 3200#32
  ![v193.toNat, 3200]
def k0_off59 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v197 : Index := Scalar.indexCast v90
  let c3328 : Index := 3328#32
  ![v197.toNat, 3328]
def k0_off60 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v201 : Index := Scalar.indexCast v90
  let c3456 : Index := 3456#32
  ![v201.toNat, 3456]
def k0_off61 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v205 : Index := Scalar.indexCast v90
  let c3584 : Index := 3584#32
  ![v205.toNat, 3584]
def k0_off62 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v209 : Index := Scalar.indexCast v90
  let c3712 : Index := 3712#32
  ![v209.toNat, 3712]
def k0_off63 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v213 : Index := Scalar.indexCast v90
  let c3840 : Index := 3840#32
  ![v213.toNat, 3840]
def k0_off64 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v217 : Index := Scalar.indexCast v90
  let c3968 : Index := 3968#32
  ![v217.toNat, 3968]
def k0_off65 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v221 : Index := Scalar.indexCast v90
  let c4096 : Index := 4096#32
  ![v221.toNat, 4096]
def k0_off66 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v225 : Index := Scalar.indexCast v90
  let c4224 : Index := 4224#32
  ![v225.toNat, 4224]
def k0_off67 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v229 : Index := Scalar.indexCast v90
  let c4352 : Index := 4352#32
  ![v229.toNat, 4352]
def k0_off68 (k0_t2 : Fin k0_t2_loop.trips) (c0_i32_57 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v90 : BitVec 32 := Scalar.addi v50 c0_i32_57
  let v233 : Index := Scalar.indexCast v90
  let c4480 : Index := 4480#32
  ![v233.toNat, 4480]
def k0_off69 (k0_t2 : Fin k0_t2_loop.trips) (c0_i32_154 : BitVec 32) (c0_i32_155 : BitVec 32) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v787 : BitVec 32 := Scalar.addi v50 c0_i32_154
  let v788 : BitVec 32 := Scalar.addi v787 c0_i32_155
  let v789 : Index := Scalar.indexCast v788
  let c0_156 : Index := 0#32
  ![v789.toNat, 0]
def k0_off70 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v1774 : Index := Scalar.indexCast v50
  let c0_370 : Index := 0#32
  ![v1774.toNat, 0]
def k0_off71 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v2014 : Index := Scalar.indexCast v50
  let c128_432 : Index := 128#32
  ![v2014.toNat, 128]
def k0_off72 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v2254 : Index := Scalar.indexCast v50
  let c256_494 : Index := 256#32
  ![v2254.toNat, 256]
def k0_off73 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v2494 : Index := Scalar.indexCast v50
  let c384_555 : Index := 384#32
  ![v2494.toNat, 384]
def k0_off74 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v2734 : Index := Scalar.indexCast v50
  let c512_617 : Index := 512#32
  ![v2734.toNat, 512]
def k0_off75 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v2974 : Index := Scalar.indexCast v50
  let c640_678 : Index := 640#32
  ![v2974.toNat, 640]
def k0_off76 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v3214 : Index := Scalar.indexCast v50
  let c768_739 : Index := 768#32
  ![v3214.toNat, 768]
def k0_off77 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v3454 : Index := Scalar.indexCast v50
  let c896_800 : Index := 896#32
  ![v3454.toNat, 896]
def k0_off78 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v3694 : Index := Scalar.indexCast v50
  let c1024_862 : Index := 1024#32
  ![v3694.toNat, 1024]
def k0_off79 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v3934 : Index := Scalar.indexCast v50
  let c1152_923 : Index := 1152#32
  ![v3934.toNat, 1152]
def k0_off80 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v4174 : Index := Scalar.indexCast v50
  let c1280_984 : Index := 1280#32
  ![v4174.toNat, 1280]
def k0_off81 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v4414 : Index := Scalar.indexCast v50
  let c1408_1045 : Index := 1408#32
  ![v4414.toNat, 1408]
def k0_off82 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v4654 : Index := Scalar.indexCast v50
  let c1536_1107 : Index := 1536#32
  ![v4654.toNat, 1536]
def k0_off83 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v4894 : Index := Scalar.indexCast v50
  let c1664_1168 : Index := 1664#32
  ![v4894.toNat, 1664]
def k0_off84 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v5134 : Index := Scalar.indexCast v50
  let c1792_1229 : Index := 1792#32
  ![v5134.toNat, 1792]
def k0_off85 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v5374 : Index := Scalar.indexCast v50
  let c1920_1290 : Index := 1920#32
  ![v5374.toNat, 1920]
def k0_off86 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v5614 : Index := Scalar.indexCast v50
  let c2048_1352 : Index := 2048#32
  ![v5614.toNat, 2048]
def k0_off87 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v49 : BitVec 32 := Scalar.muli arg14 c32_i32
  let v50 : BitVec 32 := v49
  let v5854 : Index := Scalar.indexCast v50
  let c2176_1413 : Index := 2176#32
  ![v5854.toNat, 2176]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S72x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x72x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x1024x4608 : Shape := ⟨3, ![4, 1024, 4608]⟩
abbrev S4608x1024 : Shape := ⟨2, ![4608, 1024]⟩
abbrev S72x2048 : Shape := ⟨2, ![72, 2048]⟩
abbrev S4608x64 : Shape := ⟨2, ![4608, 64]⟩
abbrev S64x2048 : Shape := ⟨2, ![64, 2048]⟩
abbrev S4x1024x72x64 : Shape := ⟨4, ![4, 1024, 72, 64]⟩
abbrev S_ : Shape := ⟨0, ![]⟩
abbrev S4x1024x72 : Shape := ⟨3, ![4, 1024, 72]⟩
abbrev S4x1024x72x1 : Shape := ⟨4, ![4, 1024, 72, 1]⟩
abbrev S72x1024 : Shape := ⟨2, ![72, 1024]⟩
abbrev S72x64x1024 : Shape := ⟨3, ![72, 64, 1024]⟩
abbrev S72x1x1024 : Shape := ⟨3, ![72, 1, 1024]⟩
abbrev S4x1024x1024 : Shape := ⟨3, ![4, 1024, 1024]⟩
abbrev S4x1024x1024x1 : Shape := ⟨4, ![4, 1024, 1024, 1]⟩
abbrev S4x1024x1024x2 : Shape := ⟨4, ![4, 1024, 1024, 2]⟩
abbrev S4x1024x2048 : Shape := ⟨3, ![4, 1024, 2048]⟩
abbrev S4x1024x64 : Shape := ⟨3, ![4, 1024, 64]⟩
abbrev S4096x2048 : Shape := ⟨2, ![4096, 2048]⟩
abbrev S4x1024x2304 : Shape := ⟨3, ![4, 1024, 2304]⟩
abbrev S4096x2304 : Shape := ⟨2, ![4096, 2304]⟩
abbrev S4x72x1024 : Shape := ⟨3, ![4, 72, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4x1024x4608, .bf16⟩
  | .hbm, ⟨1, _⟩ => ⟨S4608x1024, .i8⟩
  | .hbm, ⟨2, _⟩ => ⟨S72x2048, .f32⟩
  | .hbm, ⟨3, _⟩ => ⟨S72x2048, .bf16⟩
  | .hbm, ⟨4, _⟩ => ⟨S4608x64, .bf16⟩
  | .hbm, ⟨5, _⟩ => ⟨S64x2048, .bf16⟩
  | .hbm, ⟨6, _⟩ => ⟨S4x1024x4608, .f32⟩
  | .hbm, ⟨7, _⟩ => ⟨S4x1024x72x64, .f32⟩
  | .hbm, ⟨8, _⟩ => ⟨S4x1024x72x64, .f32⟩
  | .hbm, ⟨9, _⟩ => ⟨S_, .f32⟩
  | .hbm, ⟨10, _⟩ => ⟨S4x1024x72, .f32⟩
  | .hbm, ⟨11, _⟩ => ⟨S_, .f32⟩
  | .hbm, ⟨12, _⟩ => ⟨S4x1024x72, .f32⟩
  | .hbm, ⟨13, _⟩ => ⟨S4x1024x72, .i1⟩
  | .hbm, ⟨14, _⟩ => ⟨S_, .f32⟩
  | .hbm, ⟨15, _⟩ => ⟨S4x1024x72, .f32⟩
  | .hbm, ⟨16, _⟩ => ⟨S4x1024x72, .f32⟩
  | .hbm, ⟨17, _⟩ => ⟨S_, .f32⟩
  | .hbm, ⟨18, _⟩ => ⟨S_, .f32⟩
  | .hbm, ⟨19, _⟩ => ⟨S4x1024x72, .f32⟩
  | .hbm, ⟨20, _⟩ => ⟨S4x1024x72, .f32⟩
  | .hbm, ⟨21, _⟩ => ⟨S4x1024x72x1, .f32⟩
  | .hbm, ⟨22, _⟩ => ⟨S4x1024x72x64, .f32⟩
  | .hbm, ⟨23, _⟩ => ⟨S4x1024x72x64, .f32⟩
  | .hbm, ⟨24, _⟩ => ⟨S4x1024x72x64, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S4x1024x72x64, .f32⟩
  | .hbm, ⟨29, _⟩ => ⟨S4x1024x72x64, .f32⟩
  | .hbm, ⟨30, _⟩ => ⟨S_, .f32⟩
  | .hbm, ⟨31, _⟩ => ⟨S4x1024x72x64, .f32⟩
  | .hbm, ⟨32, _⟩ => ⟨S4x1024x72x64, .f32⟩
  | .hbm, ⟨33, _⟩ => ⟨S4x1024x72x64, .i32⟩
  | .hbm, ⟨34, _⟩ => ⟨S4x1024x72x64, .i8⟩
  | .hbm, ⟨35, _⟩ => ⟨S4x1024x4608, .i8⟩
  | .hbm, ⟨36, _⟩ => ⟨S4x1024x4608, .i32⟩
  | .hbm, ⟨37, _⟩ => ⟨S4x1024x4608, .f32⟩
  | .hbm, ⟨38, _⟩ => ⟨S4x1024x4608, .bf16⟩
  | .hbm, ⟨39, _⟩ => ⟨S4x1024x72x64, .bf16⟩
  | .hbm, ⟨40, _⟩ => ⟨S4x1024x72, .bf16⟩
  | .hbm, ⟨41, _⟩ => ⟨S4x1024x72x1, .bf16⟩
  | .hbm, ⟨42, _⟩ => ⟨S4x1024x72x64, .bf16⟩
  | .hbm, ⟨43, _⟩ => ⟨S4x1024x72x64, .bf16⟩
  | .hbm, ⟨44, _⟩ => ⟨S4x1024x4608, .bf16⟩
  | .hbm, ⟨45, _⟩ => ⟨S4608x1024, .i32⟩
  | .hbm, ⟨46, _⟩ => ⟨S_, .i32⟩
  | .hbm, ⟨47, _⟩ => ⟨S4608x1024, .i32⟩
  | .hbm, ⟨48, _⟩ => ⟨S4608x1024, .i32⟩
  | .hbm, ⟨49, _⟩ => ⟨S72x1024, .f32⟩
  | .hbm, ⟨50, _⟩ => ⟨S72x1024, .bf16⟩
  | .hbm, ⟨51, _⟩ => ⟨S4608x1024, .f32⟩
  | .hbm, ⟨52, _⟩ => ⟨S4608x1024, .bf16⟩
  | .hbm, ⟨53, _⟩ => ⟨S72x64x1024, .bf16⟩
  | .hbm, ⟨54, _⟩ => ⟨S72x1x1024, .bf16⟩
  | .hbm, ⟨55, _⟩ => ⟨S72x64x1024, .bf16⟩
  | .hbm, ⟨56, _⟩ => ⟨S72x64x1024, .bf16⟩
  | .hbm, ⟨57, _⟩ => ⟨S72x1024, .bf16⟩
  | .hbm, ⟨58, _⟩ => ⟨S72x1x1024, .bf16⟩
  | .hbm, ⟨59, _⟩ => ⟨S72x64x1024, .bf16⟩
  | .hbm, ⟨60, _⟩ => ⟨S72x64x1024, .bf16⟩
  | .hbm, ⟨61, _⟩ => ⟨S4608x1024, .bf16⟩
  | .hbm, ⟨62, _⟩ => ⟨S_, .i32⟩
  | .hbm, ⟨63, _⟩ => ⟨S4608x1024, .i32⟩
  | .hbm, ⟨64, _⟩ => ⟨S4608x1024, .i32⟩
  | .hbm, ⟨65, _⟩ => ⟨S72x1024, .f32⟩
  | .hbm, ⟨66, _⟩ => ⟨S72x1024, .bf16⟩
  | .hbm, ⟨67, _⟩ => ⟨S4608x1024, .f32⟩
  | .hbm, ⟨68, _⟩ => ⟨S4608x1024, .bf16⟩
  | .hbm, ⟨69, _⟩ => ⟨S72x64x1024, .bf16⟩
  | .hbm, ⟨70, _⟩ => ⟨S72x1x1024, .bf16⟩
  | .hbm, ⟨71, _⟩ => ⟨S72x64x1024, .bf16⟩
  | .hbm, ⟨72, _⟩ => ⟨S72x64x1024, .bf16⟩
  | .hbm, ⟨73, _⟩ => ⟨S72x1024, .bf16⟩
  | .hbm, ⟨74, _⟩ => ⟨S72x1x1024, .bf16⟩
  | .hbm, ⟨75, _⟩ => ⟨S72x64x1024, .bf16⟩
  | .hbm, ⟨76, _⟩ => ⟨S72x64x1024, .bf16⟩
  | .hbm, ⟨77, _⟩ => ⟨S4608x1024, .bf16⟩
  | .hbm, ⟨78, _⟩ => ⟨S4x1024x1024, .f32⟩
  | .hbm, ⟨79, _⟩ => ⟨S4x1024x1024, .f32⟩
  | .hbm, ⟨80, _⟩ => ⟨S4x1024x1024x1, .f32⟩
  | .hbm, ⟨81, _⟩ => ⟨S4x1024x1024x1, .f32⟩
  | .hbm, ⟨82, _⟩ => ⟨S4x1024x1024x2, .f32⟩
  | .hbm, ⟨83, _⟩ => ⟨S4x1024x2048, .f32⟩
  | .hbm, ⟨84, _⟩ => ⟨S4x1024x64, .f32⟩
  | .hbm, ⟨85, _⟩ => ⟨S4x1024x64, .bf16⟩
  | .hbm, ⟨86, _⟩ => ⟨S4x1024x2048, .f32⟩
  | .hbm, ⟨87, _⟩ => ⟨S4x1024x2048, .f32⟩
  | .hbm, ⟨88, _⟩ => ⟨S4x1024x2048, .bf16⟩
  | .hbm, ⟨89, _⟩ => ⟨S4096x2048, .bf16⟩
  | .hbm, ⟨90, _⟩ => ⟨S4x1024x4608, .i32⟩
  | .hbm, ⟨91, _⟩ => ⟨S_, .i32⟩
  | .hbm, ⟨92, _⟩ => ⟨S4x1024x4608, .i32⟩
  | .hbm, ⟨93, _⟩ => ⟨S4x1024x4608, .i32⟩
  | .hbm, ⟨94, _⟩ => ⟨S4x1024x2304, .i32⟩
  | .hbm, ⟨95, _⟩ => ⟨S4x1024x2304, .i32⟩
  | .hbm, ⟨96, _⟩ => ⟨S_, .i32⟩
  | .hbm, ⟨97, _⟩ => ⟨S4x1024x2304, .i32⟩
  | .hbm, ⟨98, _⟩ => ⟨S4x1024x2304, .i32⟩
  | .hbm, ⟨99, _⟩ => ⟨S4x1024x2304, .i32⟩
  | .hbm, ⟨100, _⟩ => ⟨S4x1024x2304, .i8⟩
  | .hbm, ⟨101, _⟩ => ⟨S4096x2304, .i8⟩
  | .hbm, ⟨102, _⟩ => ⟨S4x72x1024, .f32⟩
  | _, _ => ⟨S4x1024x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_6 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Proof.XLoop.lean ====
/- One trip of the row loop, restated generically: the per-group largest magnitudes, the scales, the quantised rows and
   the packed codes as functions of the trip's 36 loaded column blocks, and the three lists of pieces the generated run
   found as instances of them. -/
module

public import proofs.«01_k».proof.Proof.Gen.KernelIdeal.Loops

@[expose] public section

set_option maxRecDepth 100000

noncomputable section

namespace Cert.KernelIdeal.X

open Cert.KernelIdeal Cert.KernelIdeal.Gen Idealize.ShloMosaic Idealize.ShloMosaic.Tactic Idealize.SL.Sem

variable {F : FTy → Type} [FloatOps F]

/-- Where a trip reads (and stores back quantised) the sixteen rows at `r` of column block `j`. -/
def xOff (k : Fin k0_t2_loop.trips) (r : BitVec 32) : ℕ → Fin 2 → ℕ
  | 0 => k0_off33 k r
  | 1 => k0_off34 k r
  | 2 => k0_off35 k r
  | 3 => k0_off36 k r
  | 4 => k0_off37 k r
  | 5 => k0_off38 k r
  | 6 => k0_off39 k r
  | 7 => k0_off40 k r
  | 8 => k0_off41 k r
  | 9 => k0_off42 k r
  | 10 => k0_off43 k r
  | 11 => k0_off44 k r
  | 12 => k0_off45 k r
  | 13 => k0_off46 k r
  | 14 => k0_off47 k r
  | 15 => k0_off48 k r
  | 16 => k0_off49 k r
  | 17 => k0_off50 k r
  | 18 => k0_off51 k r
  | 19 => k0_off52 k r
  | 20 => k0_off53 k r
  | 21 => k0_off54 k r
  | 22 => k0_off55 k r
  | 23 => k0_off56 k r
  | 24 => k0_off57 k r
  | 25 => k0_off58 k r
  | 26 => k0_off59 k r
  | 27 => k0_off60 k r
  | 28 => k0_off61 k r
  | 29 => k0_off62 k r
  | 30 => k0_off63 k r
  | 31 => k0_off64 k r
  | 32 => k0_off65 k r
  | 33 => k0_off66 k r
  | 34 => k0_off67 k r
  | _ => k0_off68 k r

/-- Where a trip stores the packed codes of column block pair `p`. -/
def cOff (k : Fin k0_t2_loop.trips) : ℕ → Fin 2 → ℕ
  | 0 => k0_off70 k
  | 1 => k0_off71 k
  | 2 => k0_off72 k
  | 3 => k0_off73 k
  | 4 => k0_off74 k
  | 5 => k0_off75 k
  | 6 => k0_off76 k
  | 7 => k0_off77 k
  | 8 => k0_off78 k
  | 9 => k0_off79 k
  | 10 => k0_off80 k
  | 11 => k0_off81 k
  | 12 => k0_off82 k
  | 13 => k0_off83 k
  | 14 => k0_off84 k
  | 15 => k0_off85 k
  | 16 => k0_off86 k
  | _ => k0_off87 k

/-- `xOff` in closed form. -/
theorem xOff_eq (k : Fin k0_t2_loop.trips) (t : Fin 2) :
    ∀ j : Fin 36, xOff k (BitVec.ofNat 32 (16 * t.val)) j.val = ![32 * k.val + 16 * t.val, 128 * j.val]
  | ⟨0, _⟩ => k0_off33_eq k t
  | ⟨1, _⟩ => k0_off34_eq k t
  | ⟨2, _⟩ => k0_off35_eq k t
  | ⟨3, _⟩ => k0_off36_eq k t
  | ⟨4, _⟩ => k0_off37_eq k t
  | ⟨5, _⟩ => k0_off38_eq k t
  | ⟨6, _⟩ => k0_off39_eq k t
  | ⟨7, _⟩ => k0_off40_eq k t
  | ⟨8, _⟩ => k0_off41_eq k t
  | ⟨9, _⟩ => k0_off42_eq k t
  | ⟨10, _⟩ => k0_off43_eq k t
  | ⟨11, _⟩ => k0_off44_eq k t
  | ⟨12, _⟩ => k0_off45_eq k t
  | ⟨13, _⟩ => k0_off46_eq k t
  | ⟨14, _⟩ => k0_off47_eq k t
  | ⟨15, _⟩ => k0_off48_eq k t
  | ⟨16, _⟩ => k0_off49_eq k t
  | ⟨17, _⟩ => k0_off50_eq k t
  | ⟨18, _⟩ => k0_off51_eq k t
  | ⟨19, _⟩ => k0_off52_eq k t
  | ⟨20, _⟩ => k0_off53_eq k t
  | ⟨21, _⟩ => k0_off54_eq k t
  | ⟨22, _⟩ => k0_off55_eq k t
  | ⟨23, _⟩ => k0_off56_eq k t
  | ⟨24, _⟩ => k0_off57_eq k t
  | ⟨25, _⟩ => k0_off58_eq k t
  | ⟨26, _⟩ => k0_off59_eq k t
  | ⟨27, _⟩ => k0_off60_eq k t
  | ⟨28, _⟩ => k0_off61_eq k t
  | ⟨29, _⟩ => k0_off62_eq k t
  | ⟨30, _⟩ => k0_off63_eq k t
  | ⟨31, _⟩ => k0_off64_eq k t
  | ⟨32, _⟩ => k0_off65_eq k t
  | ⟨33, _⟩ => k0_off66_eq k t
  | ⟨34, _⟩ => k0_off67_eq k t
  | ⟨35, _⟩ => k0_off68_eq k t
  | ⟨n + 36, h⟩ => absurd h (by omega)

/-- `cOff` in closed form. -/
theorem cOff_eq (k : Fin k0_t2_loop.trips) : ∀ p : Fin 18, cOff k p.val = ![32 * k.val, 128 * p.val]
  | ⟨0, _⟩ => k0_off70_eq k
  | ⟨1, _⟩ => k0_off71_eq k
  | ⟨2, _⟩ => k0_off72_eq k
  | ⟨3, _⟩ => k0_off73_eq k
  | ⟨4, _⟩ => k0_off74_eq k
  | ⟨5, _⟩ => k0_off75_eq k
  | ⟨6, _⟩ => k0_off76_eq k
  | ⟨7, _⟩ => k0_off77_eq k
  | ⟨8, _⟩ => k0_off78_eq k
  | ⟨9, _⟩ => k0_off79_eq k
  | ⟨10, _⟩ => k0_off80_eq k
  | ⟨11, _⟩ => k0_off81_eq k
  | ⟨12, _⟩ => k0_off82_eq k
  | ⟨13, _⟩ => k0_off83_eq k
  | ⟨14, _⟩ => k0_off84_eq k
  | ⟨15, _⟩ => k0_off85_eq k
  | ⟨16, _⟩ => k0_off86_eq k
  | ⟨17, _⟩ => k0_off87_eq k
  | ⟨n + 18, h⟩ => absurd h (by omega)

theorem trips8 (k : Fin k0_t2_loop.trips) : k.val < 8 := Nat.lt_of_lt_of_le k.isLt k0_t2_abs.2.1

theorem xOff_inb (k : Fin k0_t2_loop.trips) (t : Fin 2) (j : Fin 36) :
    ∀ a, xOff k (BitVec.ofNat 32 (16 * t.val)) j.val a + S16x128.size a ≤ S256x4608.size a := by
  have := trips8 k; have := t.isLt; have := j.isLt
  rw [xOff_eq]; intro a; fin_cases a <;> simp [S16x128, S256x4608] <;> omega

theorem cOff_inb (k : Fin k0_t2_loop.trips) (p : Fin 18) :
    ∀ a, cOff k p.val a + S32x128.size a ≤ S256x2304.size a := by
  have := trips8 k; have := p.isLt
  rw [cOff_eq]; intro a; fin_cases a <;> simp [S32x128, S256x2304] <;> omega

/-- Where a trip stores the eight rows `u` of the scales of its sixteen rows `t`. -/
def sOff (k : Fin k0_t2_loop.trips) (t u : Fin 2) : Fin 2 → ℕ :=
  k0_off69 k (BitVec.ofNat 32 (16 * t.val)) (BitVec.ofNat 32 (8 * u.val))

/-- `sOff` in closed form. -/
theorem sOff_eq (k : Fin k0_t2_loop.trips) (t u : Fin 2) : sOff k t u = ![32 * k.val + 16 * t.val + 8 * u.val, 0] :=
  k0_off69_eq k t u

theorem sOff_inb (k : Fin k0_t2_loop.trips) (t u : Fin 2) : ∀ a, sOff k t u a + S8x128.size a ≤ S256x128.size a := by
  have := trips8 k; have := t.isLt; have := u.isLt
  rw [sOff_eq]; intro a; fin_cases a <;> simp [S8x128, S256x128] <;> omega

theorem sl8 (u : Fin 2) : S16x128.Slices ![8 * u.val, 0] S8x128 := by revert u; decide

/-- A gather's lane indices, one below zero counted from the end. -/
def norm16 (a : IVec S16x128 32) : IVec S16x128 32 :=
  let n := select (cmpi .slt a (broadcast S16x128 0#32)) (addi a (broadcast S16x128 128#32)) a
  shapeCast S16x128 (shapeCast S16x128x1 n shapeCasts_S16x128_S16x128x1) shapeCasts_S16x128x1_S16x128

/-- The same on eight rows. -/
def norm8 (a : IVec S8x128 32) : IVec S8x128 32 :=
  let n := select (cmpi .slt a (broadcast S8x128 0#32)) (addi a (broadcast S8x128 128#32)) a
  shapeCast S8x128 (shapeCast S8x128x1 n shapeCasts_S8x128_S8x128x1) shapeCasts_S8x128x1_S8x128

/-- One merge of the tree: keep `a` on the lanes with `bit` clear and `b` on the others, against the other one from the
    lane that differs in `bit`. -/
def lvl (bit : ℕ) (a b : FVec F S16x128 .bf16) : FVec F S16x128 .bf16 :=
  let low := cmpi .eq (andi (iota .tc S16x128 16 [1] iota_S16x128_d1_w16) (broadcast S16x128 (BitVec.ofNat 16 bit)))
    (broadcast S16x128 0#16)
  let swap := xori (iota .tc S16x128 32 [1] iota_S16x128_d1_w32) (broadcast S16x128 (BitVec.ofNat 32 bit))
  maximumf (select low a b)
    (truncf .bf16 (dynamicGather 1 (extf .f32 (select low b a) bitsLt_bf16_f32) (norm16 swap)) bitsLt_bf16_f32)

/-- One level of the tree over a list of `n` blocks: neighbours merged, an odd last one with itself. -/
def tr (bit n : ℕ) (T : ℕ → FVec F S16x128 .bf16) : ℕ → FVec F S16x128 .bf16 :=
  fun i => lvl bit (T (2 * i)) (T (min (2 * i + 1) (n - 1)))

/-- The magnitudes of column block `i`. -/
def leaf (v : Fin 36 → Vec F S16x128 .bf16) (i : ℕ) : FVec F S16x128 .bf16 :=
  absf (shapeCast S16x128 (v ⟨min i 35, Nat.lt_succ_of_le (Nat.min_le_right _ _)⟩) shapeCasts_S16x128_S16x128)

/-- The largest magnitude of each group of 64, at the group's own lane. -/
def amax (v : Fin 36 → Vec F S16x128 .bf16) : FVec F S16x128 .bf16 :=
  tr 1 2 (tr 2 3 (tr 4 5 (tr 8 9 (tr 16 18 (tr 32 36 (leaf v)))))) 0

/-- The scales: a seventh of the largest magnitude, one where that is zero. -/
def scl (v : Fin 36 → Vec F S16x128 .bf16) : FVec F S16x128 .f32 :=
  let m := extf .f32 (amax v) bitsLt_bf16_f32
  select (cmpf .ogt m (broadcast S16x128 (Scalar.ofBits .f32 0x00000000#32)))
    (divf m (broadcast S16x128 (Scalar.ofBits .f32 0x40E00000#32))) (broadcast S16x128 (Scalar.ofBits .f32 0x3F800000#32))

/-- Their reciprocals. -/
def rcp (v : Fin 36 → Vec F S16x128 .bf16) : FVec F S16x128 .f32 :=
  divf (broadcast S16x128 (Scalar.ofBits .f32 0x3F800000#32)) (scl v)

/-- What a trip stores of the scales: eight rows of them in group order. -/
def sPay (v : Fin 36 → Vec F S16x128 .bf16) (u : Fin 2) : FVec F S8x128 .f32 :=
  shapeCast S8x128 (dynamicGather 1 (extractStridedSlice S8x128 ![8 * u.val, 0] (scl v) (sl8 u)) (norm8 k0_pay334))
    shapeCasts_S8x128_S8x128

/-- Six bits reversed. -/
def rev6 (c : ℕ) : ℕ := c % 2 * 32 + c / 2 % 2 * 16 + c / 4 % 2 * 8 + c / 8 % 2 * 4 + c / 16 % 2 * 2 + c / 32 % 2

/-- The lanes that hold the two scales of column block `c`. -/
def idx8 (c : ℕ) : IVec S8x128 32 := addi k0_pay333 (broadcast S8x128 (BitVec.ofNat 32 (rev6 c)))

/-- The codes (as floats) of column block `c`. -/
def qPay (v : Fin 36 → Vec F S16x128 .bf16) (c : Fin 36) : FVec F S16x128 .bf16 :=
  minimumf (broadcast S16x128 (Scalar.truncf .bf16 bitsLt_bf16_f32 (Scalar.ofBits .f32 0x40E00000#32)))
    (maximumf (broadcast S16x128 (Scalar.truncf .bf16 bitsLt_bf16_f32 (Scalar.ofBits .f32 0xC1000000#32)))
      (truncf .bf16 (roundeven (mulf (extf .f32 (shapeCast S16x128 (v c) shapeCasts_S16x128_S16x128) bitsLt_bf16_f32)
        (concatenate S16x128 0
          [⟨S8x128, dynamicGather 1 (extractStridedSlice S8x128 ![0, 0] (rcp v) slices_S16x128_o0_0_S8x128) (norm8 (idx8 c.val))⟩,
           ⟨S8x128, dynamicGather 1 (extractStridedSlice S8x128 ![8, 0] (rcp v) slices_S16x128_o8_0_S8x128) (norm8 (idx8 c.val))⟩]
          concatenates_S8x128_S8x128_S16x128_d0))) bitsLt_bf16_f32))

/-- What a trip stores of the quantised rows: code · scale. -/
def xqPay (v : Fin 36 → Vec F S16x128 .bf16) (c : Fin 36) : FVec F S16x128 .bf16 :=
  shapeCast S16x128 (mulf (qPay v c) (truncf .bf16 (dynamicGather 1
    (extf .f32 (truncf .bf16 (scl v) bitsLt_bf16_f32) bitsLt_bf16_f32)
    (norm16 (concatenate S16x128 0 [⟨S8x128, idx8 c.val⟩, ⟨S8x128, idx8 c.val⟩] concatenates_S8x128_S8x128_S16x128_d0)))
    bitsLt_bf16_f32)) shapeCasts_S16x128_S16x128

/-- The codes of column block `c` as four-bit fields, one per byte of a word. -/
def nib (v0 v1 : Fin 36 → Vec F S16x128 .bf16) (c : Fin 36) : IVec S8x128 32 :=
  andi (bitcast S8x128 32 (fptosi 8 (concatenate S32x128 0 [⟨S16x128, qPay v0 c⟩, ⟨S16x128, qPay v1 c⟩]
    concatenates_S16x128_S16x128_S32x128_d0)) bitcasts_S32x128_w8_S8x128_w32) (broadcast S8x128 252645135#32)

/-- The lane pairing and the two-per-byte packing of words `y` (low field one block, high field the next). -/
def pack (y : IVec S8x128 32) : IVec S32x128 8 :=
  let lane := iota .tc S8x128 32 [1] iota_S8x128_d1_w32
  let eo := ori (andi (shli lane (broadcast S8x128 1#32)) (broadcast S8x128 127#32)) (shrsi lane (broadcast S8x128 6#32))
  let lo := cmpi .slt lane (broadcast S8x128 64#32)
  let e := dynamicGather 1 y (norm8 eo)
  let o := dynamicRotate 1 64#32 none e rotates_S8x128_d1
  let m := broadcast S8x128 252645135#32
  let a := ori (andi e m) (shli (andi o m) (broadcast S8x128 4#32))
  let b := ori (andi (shrsi o (broadcast S8x128 4#32)) m) (andi e (broadcast S8x128 4042322160#32))
  bitcast S32x128 8 (select lo a b) bitcasts_S8x128_w32_S32x128_w8

/-- What a trip stores of the codes. -/
def cPay (v0 v1 : Fin 36 → Vec F S16x128 .bf16) (c0 c1 : Fin 36) : IVec S32x128 8 :=
  pack (ori (nib v0 v1 c0) (shli (nib v0 v1 c1) (broadcast S8x128 4#32)))

/-- The 36 column blocks trip `k` loads of its sixteen rows `t`. -/
def ldX (arg1 : Memref sig .tc .vmem S256x4608 .bf16) (X1 : BufTy.Contents (Elt F) arg1.view.ty)
    (k : Fin k0_t2_loop.trips) (t : Fin 2) (j : Fin 36) : Vec F S16x128 .bf16 :=
  arg1.view.readAt (Elt F) (Rect.unit (s := S256x4608) (xOff k (BitVec.ofNat 32 (16 * t.val)) j.val) S16x128.size
    (xOff_inb k t j)).toLoadRect X1

/-- The quantised rows' pieces of trip `k`, last first. -/
def xList (arg1 : Memref sig .tc .vmem S256x4608 .bf16) (X1 : BufTy.Contents (Elt F) arg1.view.ty)
    (k : Fin k0_t2_loop.trips) : List (View.Piece (Elt F) S256x4608 .bf16) :=
  ([35, 34, 33, 32, 31, 30, 29, 28, 27, 26, 25, 24, 23, 22, 21, 20, 19, 18, 17, 16, 15, 14, 13, 12, 11, 10, 9, 8, 7, 6, 5, 4, 3, 2, 1, 0] : List (Fin 36)).flatMap fun j => ([1, 0] : List (Fin 2)).map fun t =>
    (⟨Rect.unit (s := S256x4608) (xOff k (BitVec.ofNat 32 (16 * t.val)) j.val) S16x128.size (xOff_inb k t j),
      xqPay (F := F) (ldX arg1 X1 k t) j⟩ : View.Piece (Elt F) S256x4608 .bf16)

/-- The scales' pieces of trip `k`, last first. -/
def sList (arg1 : Memref sig .tc .vmem S256x4608 .bf16) (X1 : BufTy.Contents (Elt F) arg1.view.ty)
    (k : Fin k0_t2_loop.trips) : List (View.Piece (Elt F) S256x128 .f32) :=
  ([1, 0] : List (Fin 2)).flatMap fun t => ([1, 0] : List (Fin 2)).map fun u =>
    (⟨Rect.unit (s := S256x128) (sOff k t u) S8x128.size (sOff_inb k t u), sPay (F := F) (ldX arg1 X1 k t) u⟩ : View.Piece (Elt F) S256x128 .f32)

/-- The first column block of pair `p`, and the second. -/
def cb0 (p : Fin 18) : Fin 36 := ⟨2 * p.val, by have := p.isLt; omega⟩
def cb1 (p : Fin 18) : Fin 36 := ⟨2 * p.val + 1, by have := p.isLt; omega⟩

/-- The codes' pieces of trip `k`, last first. -/
def cList (arg1 : Memref sig .tc .vmem S256x4608 .bf16) (X1 : BufTy.Contents (Elt F) arg1.view.ty)
    (k : Fin k0_t2_loop.trips) : List (View.Piece (Elt F) S256x2304 .i8) :=
  ([17, 16, 15, 14, 13, 12, 11, 10, 9, 8, 7, 6, 5, 4, 3, 2, 1, 0] : List (Fin 18)).map fun p =>
    (⟨Rect.unit (s := S256x2304) (cOff k p.val) S32x128.size (cOff_inb k p),
      cPay (F := F) (ldX arg1 X1 k 0) (ldX arg1 X1 k 1) (cb0 p) (cb1 p)⟩ : View.Piece (Elt F) S256x2304 .i8)

/-- The lists the generated run of a trip found ARE these. -/
theorem tripS_eq (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (X1 : BufTy.Contents (Elt F) arg1.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 X1 k).2.2 = sList arg1 X1 k := by
  sl_kernel_rfl

theorem tripX_eq (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (X1 : BufTy.Contents (Elt F) arg1.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 X1 k).2.1 = xList arg1 X1 k := by
  sl_kernel_rfl

theorem tripC_eq (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (X1 : BufTy.Contents (Elt F) arg1.view.ty) (k : Fin k0_t2_loop.trips) :
    (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 X1 k).1 = cList arg1 X1 k := by
  sl_kernel_rfl

end Cert.KernelIdeal.X
-- ==== Proof.Spec.lean ====
/- The arithmetic both programs share, on extended reals: the largest magnitude of a group, its scale, a code, and the
   packing of two codes into one byte. -/
module

public import Idealize.ShloMosaic.Lib.Pipeline.Value
public import Idealize.ShloMosaic.Lib.ValueIdx
public import Idealize.ShloMosaic.Lib.IdealHost
public import Idealize.ShloMosaic.PureOps.Ideal.Laws

@[expose] public section

noncomputable section

namespace Cert.Spec

open Idealize.ShloMosaic

/-- The largest magnitude of 64 values. -/
def gmax (f : Fin 64 → EReal) : EReal := Finset.univ.sup fun u => max (f u) (-(f u))

/-- The scale of a group whose largest magnitude is `M`: a seventh of it, one where it is zero. -/
def scOf (M : EReal) : EReal := if 0 < M then Ideal.div M 7 else 1

/-- The code of `x` at scale `s`, as a number. -/
def qOf (x s : EReal) : EReal := min 7 (max (-8) (Ideal.liftRound Ideal.roundHalfEven (Ideal.div x s)))

/-- The code as an eight-bit integer. -/
def cOf (q : EReal) : BitVec 8 := Ideal.fptosi 8 q

/-- Two codes in one byte. -/
def packOf (a b : BitVec 8) : BitVec 8 := (a &&& 15#8) ||| ((b &&& 15#8) <<< 4)

/-- Field `h` of a byte. -/
def nibOf (b : BitVec 8) (h : ℕ) : BitVec 8 := (b >>> (4 * h)) &&& 15#8

/-- One weight: (field − zero point) · scale. -/
def wOf (b : BitVec 8) (h : ℕ) (z s : EReal) : EReal := (((nibOf b h).toInt : ℝ) - z) * s

theorem le_gmax (f : Fin 64 → EReal) (y : EReal) : gmax f ≤ y ↔ ∀ u, max (f u) (-(f u)) ≤ y := by
  simp [gmax, Finset.sup_le_iff]

/-- The magnitude of a value is not negative. -/
theorem gmax_nonneg (f : Fin 64 → EReal) : 0 ≤ gmax f := by
  have h := (le_gmax f _).1 le_rfl 0
  refine le_trans ?_ h
  rcases le_total 0 (f 0) with h0 | h0
  · exact le_max_of_le_left h0
  · exact le_max_of_le_right (by simpa using h0)

/-- A scale is positive. -/
theorem scOf_pos (M : EReal) : 0 < scOf M := by
  unfold scOf
  split_ifs with h
  · unfold Ideal.div
    have h7 : (7 : EReal) ≠ 0 := by norm_num
    rw [if_neg h7]
    exact EReal.mul_pos h (by
      have : (7 : EReal) = ((7 : ℝ) : EReal) := by norm_cast
      rw [this, ← EReal.coe_inv]; norm_cast; norm_num)
  · norm_num

theorem scOf_ne (M : EReal) : scOf M ≠ 0 := (scOf_pos M).ne'

/-- The 32-bit constants the programs write. -/
theorem ofBits_seven : Ideal.ofBits .f32 0x40E00000#32 = 7 := by
  simp [Ideal.ofBits, Ideal.ieee, -EReal.coe_mul]; norm_num; norm_cast
theorem ofBits_neg_eight : Ideal.ofBits .f32 0xC1000000#32 = -8 := by
  simp [Ideal.ofBits, Ideal.ieee, -EReal.coe_mul]; norm_num; norm_cast
theorem ofBits_zero32 : Ideal.ofBits .f32 0x00000000#32 = 0 := by
  simp [Ideal.ofBits, Ideal.ieee, -EReal.coe_mul]
theorem ofBits_ninf : Ideal.ofBits .f32 0xFF800000#32 = ⊥ := by
  simp [Ideal.ofBits, Ideal.ieee, -EReal.coe_mul]

end Cert.Spec
-- ==== Proof.XTree.lean ====
/- The merge tree of the row loop at the extended reals: which group of 64 each lane of its result belongs to, and that
   the lane holds that group's largest magnitude. -/
module

public import proofs.«01_k».proof.Proof.XLoop
public import proofs.«01_k».proof.Proof.Spec
public import Idealize.ShloMosaic.Lib.WordCmp

@[expose] public section

set_option maxRecDepth 100000

noncomputable section

namespace Cert.KernelIdeal.X

open Cert.KernelIdeal Cert.KernelIdeal.Gen Cert.Spec Idealize.ShloMosaic Idealize.ShloMosaic.ValueIdx

/-- A lane index below 128 is left alone. -/
theorem norm16_at (a : IVec S16x128 32) (j : S16x128.Idx) (h : (a j).toNat < 128) : norm16 a j = a j := by
  unfold norm16
  rw [shapeCast_shapeCast]
  have hs : (Scalar.cmpi .slt (a j) 0#32 : BitVec 1) = 0#1 := by
    show BitVec.ofBool ((a j).slt 0#32) = 0#1
    have : (a j).slt 0#32 = false := by
      rw [BitVec.slt_eq_decide]
      simp [BitVec.toInt_eq_toNat_cond]; omega
    rw [this]; rfl
  show Scalar.select (Scalar.cmpi .slt (a j) 0#32) _ (a j) = a j
  rw [hs]; rfl

/-- The same on eight rows. -/
theorem norm8_at (a : IVec S8x128 32) (j : S8x128.Idx) (h : (a j).toNat < 128) : norm8 a j = a j := by
  unfold norm8
  rw [shapeCast_shapeCast]
  have hs : (Scalar.cmpi .slt (a j) 0#32 : BitVec 1) = 0#1 := by
    show BitVec.ofBool ((a j).slt 0#32) = 0#1
    have : (a j).slt 0#32 = false := by
      rw [BitVec.slt_eq_decide]
      simp [BitVec.toInt_eq_toNat_cond]; omega
    rw [this]; rfl
  show Scalar.select (Scalar.cmpi .slt (a j) 0#32) _ (a j) = a j
  rw [hs]; rfl

/-- A gather along the lanes, at an index whose word is `m`. -/
theorem gather_at {α : Type} {R : ℕ} (x : (⟨2, ![R, 128]⟩ : Shape).Idx → α) (idx : IVec ⟨2, ![R, 128]⟩ 32) (r : Fin R)
    (l m : Fin 128) (h : idx (ix2 r l) = BitVec.ofNat 32 m.val) : dynamicGather 1 x idx (ix2 r l) = x (ix2 r m) := by
  unfold dynamicGather
  congr 1
  funext b
  match b with
  | ⟨0, _⟩ => rfl
  | ⟨1, _⟩ =>
    apply Fin.ext
    show (idx (ix2 r l)).toNat % 128 = m.val
    rw [h]
    have := m.isLt
    simp only [BitVec.toNat_ofNat]
    omega

/-- The lane counter at a lane. -/
theorem iota_ix2 {R w : ℕ} (h : (⟨2, ![R, 128]⟩ : Shape).Iotas .tc w [1]) (r : Fin R) (l : Fin 128) :
    iota .tc ⟨2, ![R, 128]⟩ w [1] h (ix2 r l) = BitVec.ofNat w l.val := by
  rw [WordCmp.iota_at]
  simp only [List.foldl_cons, List.foldl_nil, Nat.zero_mul, Nat.zero_add]
  rfl

theorem xor_val (a b : Fin 128) : (a ^^^ b).val = a.val ^^^ b.val :=
  Nat.mod_eq_of_lt (Nat.xor_lt_two_pow (n := 7) a.isLt b.isLt)

theorem xor_assoc (a b c : Fin 128) : a ^^^ b ^^^ c = a ^^^ (b ^^^ c) := by
  apply Fin.ext
  simp only [xor_val, Nat.xor_assoc]

theorem toNat_lane (m : Fin 128) : (BitVec.ofNat 32 m.val).toNat < 128 := by
  have := m.isLt
  simp only [BitVec.toNat_ofNat]; omega

/-- Whether a lane has `bit` clear. -/
def low (bit : ℕ) (l : Fin 128) : Bool := l.val / bit % 2 == 0

/-- The bits of the six levels, and the distance a level gathers from. -/
def isBit (bit : Fin 128) : Prop := bit = 1 ∨ bit = 2 ∨ bit = 4 ∨ bit = 8 ∨ bit = 16 ∨ bit = 32

instance (bit : Fin 128) : Decidable (isBit bit) := by unfold isBit; infer_instance

theorem low_word : ∀ bit : Fin 128, isBit bit → ∀ l : Fin 128,
    (IntOp.cmpi .eq (IntOp.andi (BitVec.ofNat 16 l.val) (BitVec.ofNat 16 bit.val)) 0#16 : BitVec 1)
      = BitVec.ofBool (low bit.val l) := by
  intro bit hb
  rcases hb with h | h | h | h | h | h <;> subst h <;> decide

theorem swap_word : ∀ bit : Fin 128, isBit bit → ∀ l : Fin 128,
    IntOp.xori (BitVec.ofNat 32 l.val) (BitVec.ofNat 32 bit.val) = BitVec.ofNat 32 (l ^^^ bit).val := by
  intro bit hb
  rcases hb with h | h | h | h | h | h <;> subst h <;> decide

theorem low_swap : ∀ bit : Fin 128, isBit bit → ∀ l : Fin 128, low bit.val (l ^^^ bit) = !low bit.val l := by
  intro bit hb
  rcases hb with h | h | h | h | h | h <;> subst h <;> decide

/-- One merge at a lane. -/
theorem lvl_at (bit : Fin 128) (hb : isBit bit) (a b : FVec Ideal S16x128 .bf16) (r : Fin 16) (l : Fin 128) :
    lvl bit.val a b (ix2 r l)
      = if low bit.val l then max (a (ix2 r l)) (a (ix2 r (l ^^^ bit))) else max (b (ix2 r l)) (b (ix2 r (l ^^^ bit))) := by
  have hlow : ∀ l : Fin 128, (cmpi .eq (andi (iota .tc S16x128 16 [1] iota_S16x128_d1_w16)
      (broadcast S16x128 (BitVec.ofNat 16 bit.val))) (broadcast S16x128 0#16) : IVec S16x128 1) (ix2 r l)
        = BitVec.ofBool (low bit.val l) := fun l => by
    rw [← low_word bit hb l]
    show IntOp.cmpi .eq (IntOp.andi (iota .tc S16x128 16 [1] iota_S16x128_d1_w16 (ix2 r l)) _) _ = _
    rw [iota_ix2]
    rfl
  have hswap : (xori (iota .tc S16x128 32 [1] iota_S16x128_d1_w32) (broadcast S16x128 (BitVec.ofNat 32 bit.val)) :
      IVec S16x128 32) (ix2 r l) = BitVec.ofNat 32 (l ^^^ bit).val := by
    rw [← swap_word bit hb l]
    show IntOp.xori (iota .tc S16x128 32 [1] iota_S16x128_d1_w32 (ix2 r l)) _ = _
    rw [iota_ix2]
    rfl
  unfold lvl
  rw [maximumf_apply, truncf_apply, gather_at _ _ r l (l ^^^ bit)
    ((norm16_at _ _ (by rw [hswap]; exact toNat_lane _)).trans hswap), extf_apply, select_apply, select_apply, hlow, hlow,
    low_swap bit hb]
  cases low bit.val l <;> rfl

/-- The block a level of `n` blocks takes at position `i` for lane `l`. -/
def sel (bit n i : ℕ) (l : Fin 128) : ℕ := if low bit l then 2 * i else min (2 * i + 1) (n - 1)

/-- One level of the tree below a bound. -/
theorem tr_le (bit : Fin 128) (hb : isBit bit) (n : ℕ) (T : ℕ → FVec Ideal S16x128 .bf16) (i : ℕ) (r : Fin 16) (l : Fin 128)
    (y : EReal) : tr bit.val n T i (ix2 r l) ≤ y
      ↔ T (sel bit.val n i l) (ix2 r l) ≤ y ∧ T (sel bit.val n i l) (ix2 r (l ^^^ bit)) ≤ y := by
  unfold tr sel
  rw [lvl_at bit hb]
  split_ifs <;> exact max_le_iff

/-- One more level over a list of `n` blocks, given what the levels below leave. -/
theorem step (bit : Fin 128) (hb : isBit bit) (n : ℕ) (T lf : ℕ → FVec Ideal S16x128 .bf16) (r : Fin 16) (y : EReal)
    (f : ℕ → Fin 128 → ℕ) (ms : List (Fin 128)) (hf : ∀ i l, f i (l ^^^ bit) = f i l)
    (h : ∀ i l, T i (ix2 r l) ≤ y ↔ ∀ m ∈ ms, lf (f i l) (ix2 r (l ^^^ m)) ≤ y) (i : ℕ) (l : Fin 128) :
    tr bit.val n T i (ix2 r l) ≤ y
      ↔ ∀ m ∈ ms ++ ms.map (bit ^^^ ·), lf (f (sel bit.val n i l) l) (ix2 r (l ^^^ m)) ≤ y := by
  rw [tr_le bit hb, h, h, hf, List.forall_mem_append, List.forall_mem_map]
  simp only [xor_assoc]

/-- The block lane `l` of the result comes from. -/
def blk (l : Fin 128) : ℕ :=
  sel 32 36 (sel 16 18 (sel 8 9 (sel 4 5 (sel 2 3 (sel 1 2 0 l) l) l) l) l) l

def m0 : List (Fin 128) := [0]
def m1 : List (Fin 128) := m0 ++ m0.map ((32 : Fin 128) ^^^ ·)
def m2 : List (Fin 128) := m1 ++ m1.map ((16 : Fin 128) ^^^ ·)
def m3 : List (Fin 128) := m2 ++ m2.map ((8 : Fin 128) ^^^ ·)
def m4 : List (Fin 128) := m3 ++ m3.map ((4 : Fin 128) ^^^ ·)
def m5 : List (Fin 128) := m4 ++ m4.map ((2 : Fin 128) ^^^ ·)
def m6 : List (Fin 128) := m5 ++ m5.map ((1 : Fin 128) ^^^ ·)

theorem sel_swap (bit : Fin 128) (b : ℕ) (h : ∀ l : Fin 128, low b (l ^^^ bit) = low b l) (n i : ℕ) (l : Fin 128) :
    sel b n i (l ^^^ bit) = sel b n i l := by
  unfold sel; rw [h]

theorem low32 : ∀ l : Fin 128, low 32 (l ^^^ 16) = low 32 l ∧ low 32 (l ^^^ 8) = low 32 l ∧ low 32 (l ^^^ 4) = low 32 l
    ∧ low 32 (l ^^^ 2) = low 32 l ∧ low 32 (l ^^^ 1) = low 32 l := by decide
theorem low16 : ∀ l : Fin 128, low 16 (l ^^^ 8) = low 16 l ∧ low 16 (l ^^^ 4) = low 16 l
    ∧ low 16 (l ^^^ 2) = low 16 l ∧ low 16 (l ^^^ 1) = low 16 l := by decide
theorem low8 : ∀ l : Fin 128, low 8 (l ^^^ 4) = low 8 l ∧ low 8 (l ^^^ 2) = low 8 l ∧ low 8 (l ^^^ 1) = low 8 l := by decide
theorem low4 : ∀ l : Fin 128, low 4 (l ^^^ 2) = low 4 l ∧ low 4 (l ^^^ 1) = low 4 l := by decide
theorem low2 : ∀ l : Fin 128, low 2 (l ^^^ 1) = low 2 l := by decide

/-- The whole tree below a bound. -/
theorem amax_le (v : Fin 36 → Vec Ideal S16x128 .bf16) (r : Fin 16) (l : Fin 128) (y : EReal) :
    amax v (ix2 r l) ≤ y ↔ ∀ m ∈ m6, leaf v (blk l) (ix2 r (l ^^^ m)) ≤ y := by
  have h0 : ∀ i l, leaf v i (ix2 r l) ≤ y ↔ ∀ m ∈ m0, leaf v ((fun i _ => i) i l) (ix2 r (l ^^^ m)) ≤ y := by
    intro i l; simp [m0, show l ^^^ (0 : Fin 128) = l from Fin.ext (by simp [xor_val])]
  have h1 : ∀ i l, (tr 32 36 (leaf v)) i (ix2 r l) ≤ y ↔ ∀ m ∈ m1, leaf v (sel 32 36 i l) (ix2 r (l ^^^ m)) ≤ y := fun i l =>
    step 32 (by decide) 36 _ _ r y (fun i l => i) _ (fun _ _ => rfl) h0 i l
  have h2 : ∀ i l, (tr 16 18 (tr 32 36 (leaf v))) i (ix2 r l) ≤ y ↔ ∀ m ∈ m2, leaf v (sel 32 36 (sel 16 18 i l) l) (ix2 r (l ^^^ m)) ≤ y := fun i l =>
    step 16 (by decide) 18 _ _ r y (fun i l => (sel 32 36 i l)) _ (fun i l => by
    have := low32 l; simp only [sel, *]) h1 i l
  have h3 : ∀ i l, (tr 8 9 (tr 16 18 (tr 32 36 (leaf v)))) i (ix2 r l) ≤ y ↔ ∀ m ∈ m3, leaf v (sel 32 36 (sel 16 18 (sel 8 9 i l) l) l) (ix2 r (l ^^^ m)) ≤ y := fun i l =>
    step 8 (by decide) 9 _ _ r y (fun i l => (sel 32 36 (sel 16 18 i l) l)) _ (fun i l => by
    have := low32 l; have := low16 l; simp only [sel, *]) h2 i l
  have h4 : ∀ i l, (tr 4 5 (tr 8 9 (tr 16 18 (tr 32 36 (leaf v))))) i (ix2 r l) ≤ y ↔ ∀ m ∈ m4, leaf v (sel 32 36 (sel 16 18 (sel 8 9 (sel 4 5 i l) l) l) l) (ix2 r (l ^^^ m)) ≤ y := fun i l =>
    step 4 (by decide) 5 _ _ r y (fun i l => (sel 32 36 (sel 16 18 (sel 8 9 i l) l) l)) _ (fun i l => by
    have := low32 l; have := low16 l; have := low8 l; simp only [sel, *]) h3 i l
  have h5 : ∀ i l, (tr 2 3 (tr 4 5 (tr 8 9 (tr 16 18 (tr 32 36 (leaf v)))))) i (ix2 r l) ≤ y ↔ ∀ m ∈ m5, leaf v (sel 32 36 (sel 16 18 (sel 8 9 (sel 4 5 (sel 2 3 i l) l) l) l) l) (ix2 r (l ^^^ m)) ≤ y := fun i l =>
    step 2 (by decide) 3 _ _ r y (fun i l => (sel 32 36 (sel 16 18 (sel 8 9 (sel 4 5 i l) l) l) l)) _ (fun i l => by
    have := low32 l; have := low16 l; have := low8 l; have := low4 l; simp only [sel, *]) h4 i l
  have h6 : ∀ i l, (tr 1 2 (tr 2 3 (tr 4 5 (tr 8 9 (tr 16 18 (tr 32 36 (leaf v))))))) i (ix2 r l) ≤ y ↔ ∀ m ∈ m6, leaf v (sel 32 36 (sel 16 18 (sel 8 9 (sel 4 5 (sel 2 3 (sel 1 2 i l) l) l) l) l) l) (ix2 r (l ^^^ m)) ≤ y := fun i l =>
    step 1 (by decide) 2 _ _ r y (fun i l => (sel 32 36 (sel 16 18 (sel 8 9 (sel 4 5 (sel 2 3 i l) l) l) l) l)) _ (fun i l => by
    have := low32 l; have := low16 l; have := low8 l; have := low4 l; have := low2 l; simp only [sel, *]) h5 i l
  exact h6 0 l

/-- The lane masks of the tree are the 64 below 64. -/
theorem mem_m6 : ∀ m : Fin 128, m ∈ m6 ↔ m.val < 64 := by decide

theorem blk_lt : ∀ l : Fin 128, blk l < 36 := by decide

/-- The group lane `l` of the result holds the largest magnitude of. -/
def grp (l : Fin 128) : Fin 72 := ⟨2 * blk l + l.val / 64, by have := blk_lt l; have := l.isLt; omega⟩

/-- Lane `u` of the 64 lanes `l` is one of. -/
def seg (l : Fin 128) (u : Fin 64) : Fin 128 := ⟨64 * (l.val / 64) + u.val, by have := l.isLt; have := u.isLt; omega⟩

theorem xor_lt64 : ∀ m : Fin 128, m.val < 64 → ∀ l : Fin 128, (l ^^^ m).val / 64 = l.val / 64 := by
  intro m hm l
  have h1 : (l.val ^^^ m.val) / 2 ^ 6 = (l.val / 2 ^ 6) ^^^ (m.val / 2 ^ 6) := Nat.xor_div_two_pow
  rw [xor_val]
  have h2 : m.val / 2 ^ 6 = 0 := Nat.div_eq_of_lt hm
  rw [h2, Nat.xor_zero] at h1
  exact h1

/-- The lanes the masks reach are those 64. -/
theorem masks (l : Fin 128) (P : Fin 128 → Prop) : (∀ m ∈ m6, P (l ^^^ m)) ↔ ∀ u, P (seg l u) := by
  constructor
  · intro h u
    have e : l ^^^ (l ^^^ seg l u) = seg l u := by
      rw [← xor_assoc]; apply Fin.ext; simp [xor_val]
    have hm : (l ^^^ seg l u).val < 64 := by
      have h1 : (l.val ^^^ (seg l u).val) / 2 ^ 6 = (l.val / 2 ^ 6) ^^^ ((seg l u).val / 2 ^ 6) := Nat.xor_div_two_pow
      have h2 : (seg l u).val / 2 ^ 6 = l.val / 2 ^ 6 := by
        show (64 * (l.val / 64) + u.val) / 64 = l.val / 64
        have := u.isLt; omega
      rw [h2, Nat.xor_self] at h1
      rw [xor_val]
      omega
    have := h (l ^^^ seg l u) ((mem_m6 _).2 hm)
    rwa [e] at this
  · intro h m hm
    have h1 := xor_lt64 m ((mem_m6 m).1 hm) l
    have e : l ^^^ m = seg l ⟨(l ^^^ m).val % 64, Nat.mod_lt _ (by omega)⟩ := by
      apply Fin.ext
      show (l ^^^ m).val = 64 * (l.val / 64) + (l ^^^ m).val % 64
      omega
    rw [e]; exact h _

/-- The tree's result: each lane holds the largest magnitude of its group. -/
theorem amax_at (v : Fin 36 → Vec Ideal S16x128 .bf16) (r : Fin 16) (l : Fin 128) :
    amax v (ix2 r l) = gmax fun u => v ⟨blk l, blk_lt l⟩ (ix2 r (seg l u)) := by
  have e : (⟨min (blk l) 35, Nat.lt_succ_of_le (Nat.min_le_right _ _)⟩ : Fin 36) = ⟨blk l, blk_lt l⟩ :=
    Fin.ext (Nat.min_eq_left (Nat.le_of_lt_succ (blk_lt l)))
  have hl : ∀ j, leaf v (blk l) j = max (v ⟨blk l, blk_lt l⟩ j) (-(v ⟨blk l, blk_lt l⟩ j)) := by
    intro j
    unfold leaf
    rw [e, shapeCast_self]
    rfl
  have key : ∀ y : EReal, amax v (ix2 r l) ≤ y ↔ (gmax fun u => v ⟨blk l, blk_lt l⟩ (ix2 r (seg l u))) ≤ y := fun y => by
    rw [amax_le, le_gmax, masks l fun l' => leaf v (blk l) (ix2 r l') ≤ y]
    simp only [hl]
  exact le_antisymm ((key _).2 le_rfl) ((key _).1 le_rfl)

end Cert.KernelIdeal.X
-- ==== Proof.Bytes.lean ====
/- Four bytes in a word: the reinterpretations between rows of bytes and rows of words, and the word operations the
   kernel uses on all four bytes at once, byte by byte. -/
module

public import Idealize.ShloMosaic.Lib.BitcastFour
public import Idealize.ShloMosaic.Lib.ValueIdx

@[expose] public section

namespace Cert.Bytes

open Idealize.ShloMosaic Idealize.ShloMosaic.ValueIdx

/-- Byte `k` of a word. -/
def byt (w : BitVec 32) (k : ℕ) : BitVec 8 := w.extractLsb' (8 * k) 8

theorem byt_bit (w : BitVec 32) (k i : ℕ) (hi : i < 8) : (byt w k).getLsbD i = w.getLsbD (8 * k + i) := by
  simp [byt, BitVec.getLsbD_extractLsb', hi]

/-- Four rows of bytes read as one row of words. -/
theorem byt_of_bytes {R r n : ℕ} (x : (⟨2, ![R, n]⟩ : Shape).Idx → BitVec 8)
    (h : (⟨2, ![R, n]⟩ : Shape).Bitcasts 8 ⟨2, ![r, n]⟩ 32) (a : Fin r) (l : Fin n) (k : ℕ) (hk : k < 4) (p : Fin R)
    (hp : p.val = 4 * a.val + k) : byt (bitcast ⟨2, ![r, n]⟩ 32 x h (ix2 a l)) k = x (ix2 p l) := by
  apply BitVec.eq_of_getLsbD_eq
  intro i hi
  rw [byt_bit _ _ _ hi, bitcast_8_32_getLsbD_ix2 x h a l (8 * k + i) (by omega) p (by omega)]
  congr 1; omega

/-- One row of words read as four rows of bytes. -/
theorem bytes_of_words {R r n : ℕ} (x : (⟨2, ![r, n]⟩ : Shape).Idx → BitVec 32)
    (h : (⟨2, ![r, n]⟩ : Shape).Bitcasts 32 ⟨2, ![R, n]⟩ 8) (p : Fin R) (l : Fin n) (a : Fin r) (k : ℕ) (hk : k < 4)
    (hp : p.val = 4 * a.val + k) : bitcast ⟨2, ![R, n]⟩ 8 x h (ix2 p l) = byt (x (ix2 a l)) k := by
  apply BitVec.eq_of_getLsbD_eq
  intro i hi
  have hrow : Shape.row (⟨2, ![R, n]⟩ : Shape) (ix2 p l) = p.val := rfl
  rw [byt_bit _ _ _ hi, bitcast_getLsbD x h _ i hi (by decide)]
  have e1 : (Shape.row (⟨2, ![R, n]⟩ : Shape) (ix2 p l) * 8 + i) / 32 = a.val := by rw [hrow]; omega
  have e2 : (Shape.row (⟨2, ![R, n]⟩ : Shape) (ix2 p l) * 8 + i) % 32 = 8 * k + i := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

variable (w w' : BitVec 32) (k : ℕ)

theorem byt_or : byt (IntOp.ori w w') k = byt w k ||| byt w' k := by
  apply BitVec.eq_of_getLsbD_eq; intro i hi
  simp [IntOp.ori, byt, hi]

theorem byt_and : byt (IntOp.andi w w') k = byt w k &&& byt w' k := by
  apply BitVec.eq_of_getLsbD_eq; intro i hi
  simp [IntOp.andi, byt, hi]

theorem byt_lo (hk : k < 4) : byt 252645135#32 k = 15#8 := by interval_cases k <;> decide
theorem byt_hi (hk : k < 4) : byt 4042322160#32 k = 240#8 := by interval_cases k <;> decide

/-- The low fields, shifted to the high places. -/
theorem byt_shl (hk : k < 4) :
    byt (IntOp.shli .vector (IntOp.andi w 252645135#32) 4#32) k = (byt w k &&& 15#8) <<< 4 := by
  apply BitVec.eq_of_getLsbD_eq; intro i hi
  rw [byt_bit _ _ _ hi]
  simp only [IntOp.shli, IntOp.andi, byt]
  interval_cases k <;> interval_cases i <;> simp

/-- The high fields, shifted to the low places. -/
theorem byt_shr (hk : k < 4) :
    byt (IntOp.andi (IntOp.shrsi .vector w 4#32) 252645135#32) k = (byt w k >>> 4) &&& 15#8 := by
  apply BitVec.eq_of_getLsbD_eq; intro i hi
  rw [byt_bit _ _ _ hi]
  simp only [IntOp.shrsi, IntOp.andi, byt]
  interval_cases k <;> interval_cases i <;> simp [BitVec.getElem_sshiftRight]

theorem shr_zero : IntOp.shrsi .vector w 0#32 = w := by
  simp [IntOp.shrsi]

end Cert.Bytes
-- ==== Proof.XSem.lean ====
/- What one trip of the row loop stores, at the extended reals: scales, code · scale, and the packed codes, as functions
   of the 256 × 4608 block of rows. -/
module

public import proofs.«01_k».proof.Proof.XTree
public import Idealize.ShloMosaic.Lib.ValueLayout
public import Idealize.ShloMosaic.Lib.KernelVsHost
public import proofs.«01_k».proof.Proof.Bytes

@[expose] public section

set_option maxRecDepth 100000

noncomputable section

namespace Cert.KernelIdeal.X

open Cert.KernelIdeal Cert.KernelIdeal.Gen Cert.Spec Idealize.ShloMosaic Idealize.ShloMosaic.ValueIdx

/-- The scale of group `g` of row `r`. -/
def gS (x : S256x4608.Idx → EReal) (r : Fin 256) (g : Fin 72) : EReal :=
  scOf (gmax fun u => x (ix2 r ⟨64 * g.val + u.val, by have := g.isLt; have := u.isLt; omega⟩))

/-- The group column `d` is in. -/
def gOf (d : Fin 4608) : Fin 72 := ⟨d.val / 64, by have := d.isLt; omega⟩

/-- The code at row `r`, column `d`. -/
def Q (x : S256x4608.Idx → EReal) (r : Fin 256) (d : Fin 4608) : EReal := qOf (x (ix2 r d)) (gS x r (gOf d))

/-- The quantised rows. -/
def XQ (x : S256x4608.Idx → EReal) (r : Fin 256) (d : Fin 4608) : EReal := Q x r d * gS x r (gOf d)

theorem gS_ne (x : S256x4608.Idx → EReal) (r : Fin 256) (g : Fin 72) : gS x r g ≠ 0 := scOf_ne _

/-- A trip's sixteen rows from row `R`: block `j` holds columns `128 j …`. -/
def Rows (x : S256x4608.Idx → EReal) (R : ℕ) (v : Fin 36 → Vec Ideal S16x128 .bf16) : Prop :=
  ∀ (j : Fin 36) (a : Fin 16) (l : Fin 128) (r : Fin 256) (d : Fin 4608), r.val = R + a.val → d.val = 128 * j.val + l.val →
    v j (ix2 a l) = x (ix2 r d)

variable {x : S256x4608.Idx → EReal} {R : ℕ} {v : Fin 36 → Vec Ideal S16x128 .bf16}

/-- The scales a trip computes: lane `l` holds that of group `grp l`. -/
theorem scl_at (hv : Rows x R v) (a : Fin 16) (l : Fin 128) (r : Fin 256) (hr : r.val = R + a.val) :
    scl v (ix2 a l) = gS x r (grp l) := by
  have hm : amax v (ix2 a l) = gmax fun u => x (ix2 r ⟨64 * (grp l).val + u.val, by
      have := (grp l).isLt; have := u.isLt; omega⟩) := by
    rw [amax_at]
    congr 1
    funext u
    refine hv _ _ _ _ _ hr ?_
    show 64 * (2 * blk l + l.val / 64) + u.val = 128 * blk l + (64 * (l.val / 64) + u.val)
    omega
  unfold scl gS scOf
  simp only [select_apply, cmpf_apply, divf_apply, extf_apply, broadcast_apply, hm]
  show Scalar.select (Ideal.cmp .ogt _ (Ideal.ofBits .f32 0x00000000#32)) (Ideal.div _ (Ideal.ofBits .f32 0x40E00000#32))
    (Ideal.ofBits .f32 0x3F800000#32) = _
  rw [ofBits_zero32, ofBits_seven, Ideal.ofBits_one_f32]
  unfold Ideal.cmp
  by_cases h : 0 < gmax fun u => x (ix2 r ⟨64 * (grp l).val + u.val, by have := (grp l).isLt; have := u.isLt; omega⟩)
  · simp only [h, decide_true, if_true]; rfl
  · simp only [h, decide_false, if_false]; rfl

/-- The lane the scale of block `c`'s lane `l` is in. -/
def lane (c : Fin 36) (l : Fin 128) : Fin 128 :=
  ⟨64 * (l.val / 64) + rev6 c.val, by
    have : ∀ c : Fin 36, rev6 c.val < 64 := by decide
    have := this c; have := l.isLt; omega⟩

theorem blk_lane0 : ∀ (c : Fin 36) (s : Fin 2), blk ⟨64 * s.val + rev6 c.val, by
    have : ∀ c : Fin 36, rev6 c.val < 64 := by decide
    have := this c; have := s.isLt; omega⟩ = c.val := by decide

theorem grp_lane (c : Fin 36) (l : Fin 128) : (grp (lane c l)).val = 2 * c.val + l.val / 64 := by
  have h := blk_lane0 c ⟨l.val / 64, by have := l.isLt; omega⟩
  have hr : rev6 c.val < 64 := (by decide : ∀ c : Fin 36, rev6 c.val < 64) c
  show 2 * blk (lane c l) + (64 * (l.val / 64) + rev6 c.val) / 64 = _
  have h' : blk (lane c l) = c.val := h
  rw [h']; omega

theorem seg_word : ∀ l : Fin 128, IntOp.andi (BitVec.ofNat 32 l.val) 64#32 = BitVec.ofNat 32 (64 * (l.val / 64)) := by decide

theorem idx8_at (c : Fin 36) (a : Fin 8) (l : Fin 128) : idx8 c.val (ix2 a l) = BitVec.ofNat 32 (lane c l).val := by
  show IntOp.addi (IntOp.andi (iota .tc S8x128 32 [1] iota_S8x128_d1_w32 (ix2 a l)) 64#32) (BitVec.ofNat 32 (rev6 c.val)) = _
  rw [iota_ix2, seg_word]
  show _ + _ = _
  rw [← BitVec.ofNat_add]; rfl

theorem norm8_idx8 (c : Fin 36) (a : Fin 8) (l : Fin 128) :
    norm8 (idx8 c.val) (ix2 a l) = BitVec.ofNat 32 (lane c l).val :=
  (norm8_at _ _ (by rw [idx8_at]; exact toNat_lane _)).trans (idx8_at c a l)

/-- Two stacked eights of rows. -/
theorem cat16 {α : Type} (p q : S8x128.Idx → α) (f : Fin 16 → Fin 128 → α)
    (hp : ∀ (a : Fin 8) l (b : Fin 16), b.val = a.val → p (ix2 a l) = f b l)
    (hq : ∀ (a : Fin 8) l (b : Fin 16), b.val = 8 + a.val → q (ix2 a l) = f b l)
    (h : Shape.Concatenates [S8x128, S8x128] S16x128 0) (a : Fin 16) (l : Fin 128) :
    concatenate S16x128 0 [⟨S8x128, p⟩, ⟨S8x128, q⟩] h (ix2 a l) = f a l := by
  have ha := a.isLt
  by_cases h8 : a.val < 8
  · rw [← hp ⟨a.val, h8⟩ l a rfl]
    exact concatenate_pair_apply_left 0 p q h (ix2 a l) rfl _ (fun b => by
      match b with
      | ⟨0, _⟩ => rfl
      | ⟨1, _⟩ => rfl)
  · rw [← hq ⟨a.val - 8, by omega⟩ l a (by show a.val = 8 + (a.val - 8); omega)]
    exact concatenate_pair_apply_right 0 p q h (ix2 a l) rfl rfl _ (fun b hb => by
      match b, hb with
      | ⟨0, _⟩, hb => exact absurd rfl hb
      | ⟨1, _⟩, _ => rfl) (by show (a.val - 8) + 8 = a.val; omega)

/-- Two stacked sixteens of rows. -/
theorem cat32 {α : Type} (p q : S16x128.Idx → α) (f : Fin 32 → Fin 128 → α)
    (hp : ∀ (a : Fin 16) l (b : Fin 32), b.val = a.val → p (ix2 a l) = f b l)
    (hq : ∀ (a : Fin 16) l (b : Fin 32), b.val = 16 + a.val → q (ix2 a l) = f b l)
    (h : Shape.Concatenates [S16x128, S16x128] S32x128 0) (a : Fin 32) (l : Fin 128) :
    concatenate S32x128 0 [⟨S16x128, p⟩, ⟨S16x128, q⟩] h (ix2 a l) = f a l := by
  have ha := a.isLt
  by_cases h8 : a.val < 16
  · rw [← hp ⟨a.val, h8⟩ l a rfl]
    exact concatenate_pair_apply_left 0 p q h (ix2 a l) rfl _ (fun b => by
      match b with
      | ⟨0, _⟩ => rfl
      | ⟨1, _⟩ => rfl)
  · rw [← hq ⟨a.val - 16, by omega⟩ l a (by show a.val = 16 + (a.val - 16); omega)]
    exact concatenate_pair_apply_right 0 p q h (ix2 a l) rfl rfl _ (fun b hb => by
      match b, hb with
      | ⟨0, _⟩, hb => exact absurd rfl hb
      | ⟨1, _⟩, _ => rfl) (by show (a.val - 16) + 16 = a.val; omega)

theorem rcp_at (hv : Rows x R v) (a : Fin 16) (l : Fin 128) (r : Fin 256) (hr : r.val = R + a.val) :
    rcp v (ix2 a l) = Ideal.div 1 (gS x r (grp l)) := by
  unfold rcp
  rw [divf_apply, scl_at hv a l r hr, broadcast_apply]
  show Ideal.div (Ideal.ofBits .f32 0x3F800000#32) _ = _
  rw [Ideal.ofBits_one_f32]

/-- The codes of column block `c`. -/
theorem qPay_at (hv : Rows x R v) (hR : R + 16 ≤ 256) (c : Fin 36) (a : Fin 16) (l : Fin 128) (r : Fin 256)
    (d : Fin 4608) (hr : r.val = R + a.val) (hd : d.val = 128 * c.val + l.val) : qPay v c (ix2 a l) = Q x r d := by
  have hg : grp (lane c l) = gOf d := Fin.ext (by rw [grp_lane]; show _ = d.val / 64; have := l.isLt; omega)
  unfold qPay
  rw [minimumf_apply, maximumf_apply, truncf_apply]
  show min (Ideal.ofBits .f32 0x40E00000#32) (max (Ideal.ofBits .f32 0xC1000000#32)
    (Ideal.liftRound Ideal.roundHalfEven ((_ : FVec Ideal S16x128 .f32) (ix2 a l)))) = _
  rw [mulf_apply, extf_apply, shapeCast_self, hv c a l r d hr hd,
    cat16 _ _ (fun b l => Ideal.div 1 (gS x ⟨R + b.val, by have := b.isLt; omega⟩ (grp (lane c l)))) ?_ ?_]
  · have er : (⟨R + a.val, by have := a.isLt; omega⟩ : Fin 256) = r := Fin.ext hr.symm
    rw [er, hg]
    show min _ (max _ (Ideal.liftRound _ (x (ix2 r d) * Ideal.div 1 (gS x r (gOf d))))) = _
    rw [Ideal.mul_one_div (gS_ne x r (gOf d)), ofBits_seven, ofBits_neg_eight]
    rfl
  · intro a' l' b hb
    rw [gather_at _ _ a' l' (lane c l') (norm8_idx8 c a' l')]
    show extractStridedSlice _ _ _ _ _ = _
    rw [slice2_axis0_apply 0 (rcp v) slices_S16x128_o0_0_S8x128 a' _ b (by omega)]
    exact rcp_at hv b _ _ rfl
  · intro a' l' b hb
    rw [gather_at _ _ a' l' (lane c l') (norm8_idx8 c a' l')]
    show extractStridedSlice _ _ _ _ _ = _
    rw [slice2_axis0_apply 8 (rcp v) slices_S16x128_o8_0_S8x128 a' _ b (by omega)]
    exact rcp_at hv b _ _ rfl

/-- What a trip stores of the quantised rows. -/
theorem xqPay_at (hv : Rows x R v) (hR : R + 16 ≤ 256) (c : Fin 36) (a : Fin 16) (l : Fin 128) (r : Fin 256)
    (d : Fin 4608) (hr : r.val = R + a.val) (hd : d.val = 128 * c.val + l.val) : xqPay v c (ix2 a l) = XQ x r d := by
  have hg : grp (lane c l) = gOf d := Fin.ext (by rw [grp_lane]; show _ = d.val / 64; have := l.isLt; omega)
  have hi : (concatenate S16x128 0 [⟨S8x128, idx8 c.val⟩, ⟨S8x128, idx8 c.val⟩] concatenates_S8x128_S8x128_S16x128_d0 :
      IVec S16x128 32) (ix2 a l) = BitVec.ofNat 32 (lane c l).val :=
    cat16 _ _ (fun _ l => BitVec.ofNat 32 (lane c l).val) (fun a l _ _ => idx8_at c a l) (fun a l _ _ => idx8_at c a l) _ a l
  unfold xqPay
  rw [shapeCast_self, mulf_apply, qPay_at hv hR c a l r d hr hd, truncf_apply,
    gather_at _ _ a l (lane c l) ((norm16_at _ _ (by rw [hi]; exact toNat_lane _)).trans hi), extf_apply, truncf_apply,
    scl_at hv a _ r hr, hg]
  rfl

/-- The lane group `g`'s scale is in. -/
def nat6 (l : Fin 128) : Fin 128 :=
  ⟨64 * (l.val % 2) + rev6 (l.val / 2), by
    have : ∀ l : Fin 128, 64 * (l.val % 2) + rev6 (l.val / 2) < 128 := by decide
    exact this l⟩

theorem grp_nat6 : ∀ l : Fin 128, l.val < 72 → (grp (nat6 l)).val = l.val := by decide

/-- The lanes the scales are gathered from. -/
theorem nat_at (a : Fin 8) (l : Fin 128) : k0_pay334 (ix2 a l) = BitVec.ofNat 32 (nat6 l).val := by
  have h : ∀ l : Fin 128, (fun w : BitVec 32 =>
      let v := IntOp.shrsi .vector w 1#32
      IntOp.ori (IntOp.shli .vector (IntOp.andi w 1#32) 6#32)
        (IntOp.ori (IntOp.ori (IntOp.ori (IntOp.ori (IntOp.ori
          (IntOp.shli .vector (IntOp.andi v 1#32) 5#32) (IntOp.shli .vector (IntOp.andi v 2#32) 3#32))
          (IntOp.shli .vector (IntOp.andi v 4#32) 1#32)) (IntOp.shrsi .vector (IntOp.andi v 8#32) 1#32))
          (IntOp.shrsi .vector (IntOp.andi v 16#32) 3#32)) (IntOp.shrsi .vector (IntOp.andi v 32#32) 5#32)))
      (BitVec.ofNat 32 l.val) = BitVec.ofNat 32 (nat6 l).val := by decide
  rw [← h l, ← iota_ix2 iota_S8x128_d1_w32 a l]
  rfl

/-- What a trip stores of the scales. -/
theorem sPay_at (hv : Rows x R v) (u : Fin 2) (a : Fin 8) (l : Fin 128) (r : Fin 256) (hr : r.val = R + 8 * u.val + a.val) :
    sPay v u (ix2 a l) = gS x r (grp (nat6 l)) := by
  unfold sPay
  rw [shapeCast_self, gather_at _ _ a l (nat6 l) ((norm8_at _ _ (by rw [nat_at]; exact toNat_lane _)).trans (nat_at a l)),
    slice2_axis0_apply (8 * u.val) (scl v) (sl8 u) a _ ⟨8 * u.val + a.val, by have := u.isLt; have := a.isLt; omega⟩ rfl]
  exact scl_at hv _ _ r (by rw [hr]; show _ = R + (8 * u.val + a.val); omega)

/-! ## The packed codes -/

/-- The byte at row `r`, column `e`. -/
def C (x : S256x4608.Idx → EReal) (r : Fin 256) (e : Fin 2304) : BitVec 8 :=
  packOf (cOf (Q x r ⟨2 * e.val, by have := e.isLt; omega⟩)) (cOf (Q x r ⟨2 * e.val + 1, by have := e.isLt; omega⟩))

open Cert.Bytes

/-- The fields of column block `c`, by byte. -/
theorem nib_at {v0 v1 : Fin 36 → Vec Ideal S16x128 .bf16} (h0 : Rows x R v0) (h1 : Rows x (R + 16) v1) (hR : R + 32 ≤ 256)
    (c : Fin 36) (a : Fin 8) (l : Fin 128) (k : ℕ) (hk : k < 4) (r : Fin 256) (d : Fin 4608)
    (hr : r.val = R + (4 * a.val + k)) (hd : d.val = 128 * c.val + l.val) :
    byt (nib v0 v1 c (ix2 a l)) k = cOf (Q x r d) &&& 15#8 := by
  have ha := a.isLt
  show byt (IntOp.andi _ 252645135#32) k = _
  rw [byt_and, byt_lo k hk, byt_of_bytes _ _ a l k hk ⟨4 * a.val + k, by omega⟩ rfl]
  congr 1
  show Ideal.fptosi 8 ((_ : FVec Ideal S32x128 .bf16) (ix2 _ l)) = Ideal.fptosi 8 _
  congr 1
  have hl := l.isLt
  have hc := c.isLt
  rw [cat32 _ _ (fun b l => Q x ⟨R + b.val, by have := b.isLt; omega⟩ ⟨128 * c.val + l.val, by have := l.isLt; omega⟩)
    (fun a l b hb => qPay_at h0 (by omega) c a l _ _ (by show R + b.val = _; omega) rfl)
    (fun a l b hb => qPay_at h1 (by omega) c a l _ _ (by show R + b.val = _; omega) rfl)]
  congr 1
  · exact Fin.ext hr.symm
  · exact Fin.ext hd.symm

/-- The lane pairing: lane `l` takes lane `2 l` below 64 and `2 (l − 64) + 1` above. -/
def pairL (l : Fin 128) : Fin 128 := ⟨2 * l.val % 128 + l.val / 64, by have := l.isLt; omega⟩

theorem eo_word : ∀ l : Fin 128, IntOp.ori (IntOp.andi (IntOp.shli .vector (BitVec.ofNat 32 l.val) 1#32) 127#32)
    (IntOp.shrsi .vector (BitVec.ofNat 32 l.val) 6#32) = BitVec.ofNat 32 (pairL l).val := by decide

theorem lt64_word : ∀ l : Fin 128, (IntOp.cmpi .slt (BitVec.ofNat 32 l.val) 64#32 : BitVec 1)
    = BitVec.ofBool (decide (l.val < 64)) := by decide

/-- Half a turn. -/
def turn (l : Fin 128) : Fin 128 := ⟨(l.val + 64) % 128, Nat.mod_lt _ (by omega)⟩

/-- The packing at a byte. -/
theorem pack_at (y : IVec S8x128 32) (b : Fin 32) (l : Fin 128) (a : Fin 8) (k : ℕ) (hk : k < 4) (hb : b.val = 4 * a.val + k) :
    pack y (ix2 b l) = if l.val < 64
      then (byt (y (ix2 a (pairL l))) k &&& 15#8) ||| ((byt (y (ix2 a (pairL (turn l)))) k &&& 15#8) <<< 4)
      else ((byt (y (ix2 a (pairL (turn l)))) k >>> 4) &&& 15#8) ||| (byt (y (ix2 a (pairL l))) k &&& 240#8) := by
  let lane := iota .tc S8x128 32 [1] iota_S8x128_d1_w32
  let eo : IVec S8x128 32 :=
    ori (andi (shli lane (broadcast S8x128 1#32)) (broadcast S8x128 127#32)) (shrsi lane (broadcast S8x128 6#32))
  have heo : ∀ l, eo (ix2 a l) = BitVec.ofNat 32 (pairL l).val := fun l => by
    rw [← eo_word l, ← iota_ix2 iota_S8x128_d1_w32 a l]; rfl
  have he : ∀ l, dynamicGather 1 y (norm8 eo) (ix2 a l) = y (ix2 a (pairL l)) := fun l =>
    gather_at _ _ a l (pairL l) ((norm8_at _ _ (by rw [heo]; exact toNat_lane _)).trans (heo l))
  have ho : dynamicRotate 1 64#32 none (dynamicGather 1 y (norm8 eo)) rotates_S8x128_d1 (ix2 a l)
      = y (ix2 a (pairL (turn l))) := by
    rw [← he]
    refine dynamicRotate_apply 1 64#32 _ _ _ _ (fun b => ?_)
    match b with
    | ⟨0, _⟩ => rfl
    | ⟨1, _⟩ =>
      show (l.val + 64) % 128 = (l.val + 128 - 64 % 128) % 128
      omega
  have hlo : (cmpi .slt lane (broadcast S8x128 64#32) : IVec S8x128 1) (ix2 a l) = BitVec.ofBool (decide (l.val < 64)) := by
    rw [← lt64_word l, ← iota_ix2 iota_S8x128_d1_w32 a l]; rfl
  unfold pack
  rw [bytes_of_words _ _ b l a k hk hb, select_apply]
  show byt (Scalar.select (cmpi .slt lane (broadcast S8x128 64#32) (ix2 a l))
    (IntOp.ori (IntOp.andi (dynamicGather 1 y (norm8 eo) (ix2 a l)) 252645135#32)
      (IntOp.shli .vector (IntOp.andi (dynamicRotate 1 64#32 none (dynamicGather 1 y (norm8 eo)) rotates_S8x128_d1 (ix2 a l))
        252645135#32) 4#32))
    (IntOp.ori (IntOp.andi (IntOp.shrsi .vector
        (dynamicRotate 1 64#32 none (dynamicGather 1 y (norm8 eo)) rotates_S8x128_d1 (ix2 a l)) 4#32) 252645135#32)
      (IntOp.andi (dynamicGather 1 y (norm8 eo) (ix2 a l)) 4042322160#32))) k = _
  rw [hlo, he, ho]
  by_cases h : l.val < 64
  · rw [if_pos h]
    simp only [h, decide_true]
    show byt (IntOp.ori _ _) k = _
    rw [byt_or, byt_and, byt_lo k hk, byt_shl _ k hk]
  · rw [if_neg h]
    simp only [h, decide_false]
    show byt (IntOp.ori _ _) k = _
    rw [byt_or, byt_shr _ k hk, byt_and, byt_hi k hk]

theorem pack_lo : ∀ a b c d : BitVec 8, (((a &&& 15#8) ||| ((c &&& 15#8) <<< 4)) &&& 15#8)
    ||| (((((b &&& 15#8) ||| ((d &&& 15#8) <<< 4)) &&& 15#8) <<< 4)) = packOf a b := by
  intro a b c d
  apply BitVec.eq_of_getLsbD_eq; intro i hi
  unfold packOf
  interval_cases i <;> simp

theorem pack_hi : ∀ a b c d : BitVec 8, ((((c &&& 15#8) ||| ((a &&& 15#8) <<< 4)) >>> 4) &&& 15#8)
    ||| (((d &&& 15#8) ||| ((b &&& 15#8) <<< 4)) &&& 240#8) = packOf a b := by
  intro a b c d
  apply BitVec.eq_of_getLsbD_eq; intro i hi
  unfold packOf
  interval_cases i <;> simp

/-- What a trip stores of the codes. -/
theorem cPay_at {v0 v1 : Fin 36 → Vec Ideal S16x128 .bf16} (h0 : Rows x R v0) (h1 : Rows x (R + 16) v1) (hR : R + 32 ≤ 256)
    (c0 c1 : Fin 36) (p : Fin 18) (hc0 : c0.val = 2 * p.val) (hc1 : c1.val = 2 * p.val + 1)
    (b : Fin 32) (l : Fin 128) (r : Fin 256) (e : Fin 2304) (hr : r.val = R + b.val) (he : e.val = 128 * p.val + l.val) :
    cPay v0 v1 c0 c1 (ix2 b l) = C x r e := by
  have hb := b.isLt
  have hl := l.isLt
  have hp := p.isLt
  have hk : b.val % 4 < 4 := Nat.mod_lt _ (by omega)
  have hy : ∀ (l : Fin 128) (d0 d1 : Fin 4608), d0.val = 128 * c0.val + l.val → d1.val = 128 * c1.val + l.val →
      byt (ori (nib v0 v1 c0) (shli (nib v0 v1 c1) (broadcast S8x128 4#32)) (ix2 ⟨b.val / 4, by omega⟩ l)) (b.val % 4)
        = (cOf (Q x r d0) &&& 15#8) ||| ((cOf (Q x r d1) &&& 15#8) <<< 4) := by
    intro l d0 d1 hd0 hd1
    have hr' : r.val = R + (4 * (b.val / 4) + b.val % 4) := by omega
    show byt (IntOp.ori (nib v0 v1 c0 (ix2 _ l)) (IntOp.shli .vector (IntOp.andi _ 252645135#32) 4#32)) _ = _
    rw [byt_or, byt_shl _ _ hk, nib_at h0 h1 hR c0 ⟨b.val / 4, by omega⟩ l _ hk r d0 hr' hd0]
    congr 2
    have := nib_at h0 h1 hR c1 ⟨b.val / 4, by omega⟩ l _ hk r d1 hr' hd1
    rw [← this]
    show _ = byt (IntOp.andi _ 252645135#32) _
    rw [byt_and, byt_lo _ hk]
  unfold cPay
  rw [pack_at _ b l ⟨b.val / 4, by omega⟩ (b.val % 4) hk (by show b.val = 4 * (b.val / 4) + b.val % 4; omega)]
  unfold C
  by_cases h : l.val < 64
  · rw [if_pos h, hy (pairL l) ⟨2 * e.val, by have := e.isLt; omega⟩ ⟨2 * e.val + 128, by omega⟩
        (by show 2 * e.val = _ + (2 * l.val % 128 + l.val / 64); omega)
        (by show 2 * e.val + 128 = _ + (2 * l.val % 128 + l.val / 64); omega),
      hy (pairL (turn l)) ⟨2 * e.val + 1, by have := e.isLt; omega⟩ ⟨2 * e.val + 1 + 128, by omega⟩
        (by show 2 * e.val + 1 = _ + (2 * ((l.val + 64) % 128) % 128 + (l.val + 64) % 128 / 64); omega)
        (by show 2 * e.val + 1 + 128 = _ + (2 * ((l.val + 64) % 128) % 128 + (l.val + 64) % 128 / 64); omega)]
    exact pack_lo _ _ _ _
  · rw [if_neg h, hy (pairL l) ⟨2 * e.val + 1 - 128, by have := e.isLt; omega⟩ ⟨2 * e.val + 1, by have := e.isLt; omega⟩
        (by show 2 * e.val + 1 - 128 = _ + (2 * l.val % 128 + l.val / 64); omega)
        (by show 2 * e.val + 1 = _ + (2 * l.val % 128 + l.val / 64); omega),
      hy (pairL (turn l)) ⟨2 * e.val - 128, by have := e.isLt; omega⟩ ⟨2 * e.val, by have := e.isLt; omega⟩
        (by show 2 * e.val - 128 = _ + (2 * ((l.val + 64) % 128) % 128 + (l.val + 64) % 128 / 64); omega)
        (by show 2 * e.val = _ + (2 * ((l.val + 64) % 128) % 128 + (l.val + 64) % 128 / 64); omega)]
    exact pack_hi _ _ _ _

end Cert.KernelIdeal.X
-- ==== Proof.WLoop.lean ====
/- One trip of the weight loop, restated generically: the 128 stores of a trip (8 column blocks × 8 row groups × 2
   halves) as ONE list of pieces built from one payload function, equal to the list the generated run found. -/
module

public import proofs.«01_k».proof.Proof.Gen.KernelIdeal.Loops

@[expose] public section

set_option maxRecDepth 100000

noncomputable section

namespace Cert.KernelIdeal.W

open Cert.KernelIdeal Cert.KernelIdeal.Gen Idealize.ShloMosaic Idealize.ShloMosaic.Tactic Idealize.SL.Sem

variable {F : FTy → Type} [FloatOps F]

/-- Where a trip reads the scales and zero points of column block `c`. -/
def oZ (k : Fin k0_t1_loop.trips) : ℕ → Fin 2 → ℕ
  | 0 => k0_off1 k
  | 1 => k0_off5 k
  | 2 => k0_off9 k
  | 3 => k0_off13 k
  | 4 => k0_off17 k
  | 5 => k0_off21 k
  | 6 => k0_off25 k
  | _ => k0_off29 k

/-- Where a trip reads the packed bytes of column block `c`, row group `r`. -/
def oP (k : Fin k0_t1_loop.trips) (r : BitVec 32) : ℕ → Fin 2 → ℕ
  | 0 => k0_off2 k r
  | 1 => k0_off6 k r
  | 2 => k0_off10 k r
  | 3 => k0_off14 k r
  | 4 => k0_off18 k r
  | 5 => k0_off22 k r
  | 6 => k0_off26 k r
  | _ => k0_off30 k r

/-- Where a trip stores the low half of column block `c`, row group `r`. -/
def oS0 (k : Fin k0_t1_loop.trips) (r : BitVec 32) : ℕ → Fin 2 → ℕ
  | 0 => k0_off3 k r
  | 1 => k0_off7 k r
  | 2 => k0_off11 k r
  | 3 => k0_off15 k r
  | 4 => k0_off19 k r
  | 5 => k0_off23 k r
  | 6 => k0_off27 k r
  | _ => k0_off31 k r

/-- Where a trip stores the high half of column block `c`, row group `r`. -/
def oS1 (k : Fin k0_t1_loop.trips) (r : BitVec 32) : ℕ → Fin 2 → ℕ
  | 0 => k0_off4 k r
  | 1 => k0_off8 k r
  | 2 => k0_off12 k r
  | 3 => k0_off16 k r
  | 4 => k0_off20 k r
  | 5 => k0_off24 k r
  | 6 => k0_off28 k r
  | _ => k0_off32 k r

/-- Where a trip stores half `h` of column block `c`, row group `r`. -/
def oS (k : Fin k0_t1_loop.trips) (r : BitVec 32) (c : ℕ) : ℕ → Fin 2 → ℕ
  | 0 => oS0 k r c
  | _ => oS1 k r c

/-- `oZ` in closed form. -/
theorem oZ_eq (k : Fin k0_t1_loop.trips) : ∀ c : Fin 8, oZ k c.val = ![8 * k.val, 256 * c.val]
  | ⟨0, _⟩ => k0_off1_eq k
  | ⟨1, _⟩ => k0_off5_eq k
  | ⟨2, _⟩ => k0_off9_eq k
  | ⟨3, _⟩ => k0_off13_eq k
  | ⟨4, _⟩ => k0_off17_eq k
  | ⟨5, _⟩ => k0_off21_eq k
  | ⟨6, _⟩ => k0_off25_eq k
  | ⟨7, _⟩ => k0_off29_eq k

/-- `oP` in closed form. -/
theorem oP_eq (k : Fin k0_t1_loop.trips) (r : Fin 8) : ∀ c : Fin 8, oP k (BitVec.ofNat 32 r.val) c.val = ![512 * k.val + 64 * r.val, 128 * c.val]
  | ⟨0, _⟩ => k0_off2_eq k r
  | ⟨1, _⟩ => k0_off6_eq k r
  | ⟨2, _⟩ => k0_off10_eq k r
  | ⟨3, _⟩ => k0_off14_eq k r
  | ⟨4, _⟩ => k0_off18_eq k r
  | ⟨5, _⟩ => k0_off22_eq k r
  | ⟨6, _⟩ => k0_off26_eq k r
  | ⟨7, _⟩ => k0_off30_eq k r

/-- `oS0` in closed form. -/
theorem oS0_eq (k : Fin k0_t1_loop.trips) (r : Fin 8) : ∀ c : Fin 8, oS0 k (BitVec.ofNat 32 r.val) c.val = ![512 * k.val + 64 * r.val, 256 * c.val]
  | ⟨0, _⟩ => k0_off3_eq k r
  | ⟨1, _⟩ => k0_off7_eq k r
  | ⟨2, _⟩ => k0_off11_eq k r
  | ⟨3, _⟩ => k0_off15_eq k r
  | ⟨4, _⟩ => k0_off19_eq k r
  | ⟨5, _⟩ => k0_off23_eq k r
  | ⟨6, _⟩ => k0_off27_eq k r
  | ⟨7, _⟩ => k0_off31_eq k r

/-- `oS1` in closed form. -/
theorem oS1_eq (k : Fin k0_t1_loop.trips) (r : Fin 8) : ∀ c : Fin 8, oS1 k (BitVec.ofNat 32 r.val) c.val = ![512 * k.val + 64 * r.val, 256 * c.val + 128]
  | ⟨0, _⟩ => k0_off4_eq k r
  | ⟨1, _⟩ => k0_off8_eq k r
  | ⟨2, _⟩ => k0_off12_eq k r
  | ⟨3, _⟩ => k0_off16_eq k r
  | ⟨4, _⟩ => k0_off20_eq k r
  | ⟨5, _⟩ => k0_off24_eq k r
  | ⟨6, _⟩ => k0_off28_eq k r
  | ⟨7, _⟩ => k0_off32_eq k r

/-- `oS` in closed form. -/
theorem oS_eq (k : Fin k0_t1_loop.trips) (r c : Fin 8) :
    ∀ h : Fin 2, oS k (BitVec.ofNat 32 r.val) c.val h.val = ![512 * k.val + 64 * r.val, 256 * c.val + 128 * h.val]
  | ⟨0, _⟩ => oS0_eq k r c
  | ⟨1, _⟩ => oS1_eq k r c

theorem trips9 (k : Fin k0_t1_loop.trips) : k.val < 9 := Nat.lt_of_lt_of_le k.isLt k0_t1_abs.2.1

theorem oZ_inb (k : Fin k0_t1_loop.trips) (c : Fin 8) : ∀ a, oZ k c.val a + S8x256.size a ≤ S72x2048.size a := by
  have := trips9 k; have := c.isLt
  rw [oZ_eq]; intro a; fin_cases a <;> simp [S8x256, S72x2048] <;> omega

theorem oP_inb (k : Fin k0_t1_loop.trips) (r c : Fin 8) :
    ∀ a, oP k (BitVec.ofNat 32 r.val) c.val a + S64x128.size a ≤ S4608x1024.size a := by
  have := trips9 k; have := c.isLt; have := r.isLt
  rw [oP_eq]; intro a; fin_cases a <;> simp [S64x128, S4608x1024] <;> omega

theorem oS_inb (k : Fin k0_t1_loop.trips) (r c : Fin 8) (h : Fin 2) :
    ∀ a, oS k (BitVec.ofNat 32 r.val) c.val h.val a + S64x128.size a ≤ S4608x2048.size a := by
  have := trips9 k; have := c.isLt; have := r.isLt; have := h.isLt
  rw [oS_eq]; intro a; fin_cases a <;> simp [S64x128, S4608x2048] <;> omega

theorem slZ (g : Fin 8) (h : Fin 2) : S8x256.Slices ![g.val, 128 * h.val] S1x128 := by
  revert g h; decide

/-- The lanes half `h` gathers from: `half + 64 h`, an index below zero counted from the end. -/
def wIdx (half : IVec S16x128 32) (h : ℕ) : IVec S16x128 32 :=
  let a := addi half (broadcast S16x128 (BitVec.ofNat 32 (64 * h)))
  let n := select (cmpi .slt a (broadcast S16x128 0#32)) (addi a (broadcast S16x128 128#32)) a
  shapeCast S16x128 (shapeCast S16x128x1 n shapeCasts_S16x128_S16x128x1) shapeCasts_S16x128x1_S16x128

/-- Row `g`, half `h` of a slab of eight rows, over 64 rows. -/
def wRow (x : FVec F S8x256 .f32) (g : Fin 8) (h : Fin 2) : FVec F S64x128 .bf16 :=
  truncf .bf16 (broadcastTo S64x128 (shapeCast S1x128 (extractStridedSlice S1x128 ![g.val, 128 * h.val] x (slZ g h))
    shapeCasts_S1x128_S1x128) broadcasts_S1x128_S64x128) bitsLt_bf16_f32

/-- The codes of half `h`: the bytes' words gathered, shifted by the lane's own shift, masked, read as bytes. -/
def wCodes (half shift : IVec S16x128 32) (p : Vec F S64x128 .i8) (h : ℕ) : IVec S64x128 8 :=
  bitcast S64x128 8 (andi (shrsi (dynamicGather 1 (bitcast S16x128 32 p bitcasts_S64x128_w8_S16x128_w32) (wIdx half h)) shift)
    (broadcast S16x128 252645135#32)) bitcasts_S16x128_w32_S64x128_w8

/-- What a trip stores: (code − zero point) · scale. -/
def wPay (half shift : IVec S16x128 32) (z8 : Vec F S8x256 .bf16) (s8 : Vec F S8x256 .f32) (p : Vec F S64x128 .i8)
    (g : Fin 8) (h : Fin 2) : FVec F S64x128 .bf16 :=
  shapeCast S64x128 (mulf (subf (sitofp .bf16 (wCodes half shift p h.val)) (wRow (extf .f32 z8 bitsLt_bf16_f32) g h))
    (wRow s8 g h)) shapeCasts_S64x128_S64x128

/-- The pieces of trip `k`, last first. -/
def wList (arg2 : Memref sig .tc .vmem S4608x1024 .i8) (arg3 : Memref sig .tc .vmem S72x2048 .f32)
    (arg4 : Memref sig .tc .vmem S72x2048 .bf16) (X2 : BufTy.Contents (Elt F) arg2.view.ty)
    (X3 : BufTy.Contents (Elt F) arg3.view.ty) (X4 : BufTy.Contents (Elt F) arg4.view.ty) (k : Fin k0_t1_loop.trips) :
    List (View.Piece (Elt F) S4608x2048 .bf16) :=
  ([7, 6, 5, 4, 3, 2, 1, 0] : List (Fin 8)).flatMap fun c => ([7, 6, 5, 4, 3, 2, 1, 0] : List (Fin 8)).flatMap fun g =>
    ([1, 0] : List (Fin 2)).map fun h =>
      (⟨Rect.unit (s := S4608x2048) (oS k (BitVec.ofNat 32 g.val) c.val h.val) S64x128.size (oS_inb k g c h),
        wPay (F := F) k0_pay966 k0_pay967
          (arg4.view.readAt (Elt F) (Rect.unit (s := S72x2048) (oZ k c.val) S8x256.size (oZ_inb k c)).toLoadRect X4)
          (arg3.view.readAt (Elt F) (Rect.unit (s := S72x2048) (oZ k c.val) S8x256.size (oZ_inb k c)).toLoadRect X3)
          (arg2.view.readAt (Elt F) (Rect.unit (s := S4608x1024) (oP k (BitVec.ofNat 32 g.val) c.val) S64x128.size
            (oP_inb k g c)).toLoadRect X2) g h⟩ : View.Piece (Elt F) S4608x2048 .bf16)

/-- The list the generated run of a trip found IS `wList`. -/
theorem tripL_eq (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (k0_h1 : k0_cond1 i = 1#1) (X2 : BufTy.Contents (Elt F) arg2.view.ty) (X3 : BufTy.Contents (Elt F) arg3.view.ty) (X4 : BufTy.Contents (Elt F) arg4.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X2 X3 X4 k = wList arg2 arg3 arg4 X2 X3 X4 k := by
  sl_kernel_rfl

end Cert.KernelIdeal.W
-- ==== Proof.WSem.lean ====
/- What one trip of the weight loop stores, at the extended reals: (field − zero point) · scale. -/
module

public import proofs.«01_k».proof.Proof.WLoop
public import proofs.«01_k».proof.Proof.XTree
public import proofs.«01_k».proof.Proof.Bytes
public import Idealize.ShloMosaic.Lib.ValueLayout

@[expose] public section

set_option maxRecDepth 100000

noncomputable section

namespace Cert.KernelIdeal.W

open Cert.KernelIdeal Cert.KernelIdeal.Gen Cert.Spec Cert.Bytes Cert.KernelIdeal.X Idealize.ShloMosaic
open Idealize.ShloMosaic.ValueIdx

/-- The weights: row `d`, column `n`. -/
def Wt (wp : S4608x1024.Idx → BitVec 8) (ws wz : S72x2048.Idx → EReal) (d : Fin 4608) (n : Fin 2048) : EReal :=
  wOf (wp (ix2 d ⟨n.val / 2, by have := n.isLt; omega⟩)) (n.val % 2)
    (wz (ix2 ⟨d.val / 64, by have := d.isLt; omega⟩ n)) (ws (ix2 ⟨d.val / 64, by have := d.isLt; omega⟩ n))

/-- Row `g`, half `h` of a slab, at any of the 64 rows. -/
theorem wRow_at (s : FVec Ideal S8x256 .f32) (g : Fin 8) (h : Fin 2) (b : Fin 64) (l : Fin 128) (k : Fin 256)
    (hk : k.val = 128 * h.val + l.val) : wRow s g h (ix2 b l) = s (ix2 g k) := by
  unfold wRow
  rw [truncf_apply, broadcastTo_1b_ab_apply, shapeCast_self]
  exact extractStridedSlice_apply _ _ _ _ _ (fun ax => by
    match ax with
    | ⟨0, _⟩ => rfl
    | ⟨1, _⟩ => exact hk)

/-- The lane half `h` takes its byte from. -/
def halfL (h : Fin 2) (l : Fin 128) : Fin 128 := ⟨64 * h.val + l.val / 2, by have := h.isLt; have := l.isLt; omega⟩

theorem half_word : ∀ (h : Fin 2) (l : Fin 128), IntOp.addi (IntOp.shrsi .vector (BitVec.ofNat 32 l.val) 1#32)
    (BitVec.ofNat 32 (64 * h.val)) = BitVec.ofNat 32 (halfL h l).val := by decide

theorem shift_word : ∀ l : Fin 128, IntOp.shli .vector (IntOp.andi (BitVec.ofNat 32 l.val) 1#32) 2#32
    = if l.val % 2 = 0 then 0#32 else 4#32 := by decide

theorem wIdx_at (h : Fin 2) (a : Fin 16) (l : Fin 128) :
    wIdx k0_pay966 h.val (ix2 a l) = BitVec.ofNat 32 (halfL h l).val := by
  have e : (addi k0_pay966 (broadcast S16x128 (BitVec.ofNat 32 (64 * h.val))) : IVec S16x128 32) (ix2 a l)
      = BitVec.ofNat 32 (halfL h l).val := by
    rw [← half_word h l, ← iota_ix2 iota_S16x128_d1_w32 a l]; rfl
  exact (norm16_at (addi k0_pay966 (broadcast S16x128 (BitVec.ofNat 32 (64 * h.val)))) (ix2 a l)
    (by rw [e]; exact toNat_lane _)).trans e

/-- The codes a trip reads. -/
theorem wCodes_at (p : Vec Ideal S64x128 .i8) (h : Fin 2) (b : Fin 64) (l : Fin 128) :
    wCodes k0_pay966 k0_pay967 p h.val (ix2 b l) = nibOf (p (ix2 b (halfL h l))) (l.val % 2) := by
  have hb := b.isLt
  have hk : b.val % 4 < 4 := Nat.mod_lt _ (by omega)
  have hs : k0_pay967 (ix2 (⟨b.val / 4, by omega⟩ : Fin 16) l) = if l.val % 2 = 0 then 0#32 else 4#32 := by
    rw [← shift_word l, ← iota_ix2 iota_S16x128_d1_w32 ⟨b.val / 4, by omega⟩ l]; rfl
  unfold wCodes
  rw [bytes_of_words _ _ b l ⟨b.val / 4, by omega⟩ (b.val % 4) hk (by show b.val = 4 * (b.val / 4) + b.val % 4; omega)]
  show byt (IntOp.andi (IntOp.shrsi .vector (dynamicGather 1 _ _ (ix2 _ l)) (k0_pay967 _)) 252645135#32) _ = _
  rw [hs, gather_at _ _ _ l (halfL h l) (wIdx_at h _ l)]
  have hp : byt (bitcast S16x128 32 p bitcasts_S64x128_w8_S16x128_w32 (ix2 ⟨b.val / 4, by omega⟩ (halfL h l))) (b.val % 4)
      = p (ix2 b (halfL h l)) :=
    byt_of_bytes _ _ _ _ _ hk b (by show b.val = 4 * (b.val / 4) + b.val % 4; omega)
  have hm : l.val % 2 = 0 ∨ l.val % 2 = 1 := by omega
  unfold nibOf
  rcases hm with hm | hm
  · rw [if_pos hm, hm, shr_zero, byt_and, byt_lo _ hk, hp]
    simp
  · rw [if_neg (by omega), hm, byt_shr _ _ hk, hp]

/-- What a trip stores, from the slabs and bytes it loads. -/
theorem wPay_at (wp : S4608x1024.Idx → BitVec 8) (ws wz : S72x2048.Idx → EReal) (k : ℕ) (c g : Fin 8) (h : Fin 2)
    (z8 : Vec Ideal S8x256 .bf16) (s8 : Vec Ideal S8x256 .f32) (p : Vec Ideal S64x128 .i8)
    (hz : ∀ (a : Fin 8) (b : Fin 256) (i : Fin 72) (j : Fin 2048), i.val = 8 * k + a.val → j.val = 256 * c.val + b.val →
      z8 (ix2 a b) = wz (ix2 i j))
    (hs : ∀ (a : Fin 8) (b : Fin 256) (i : Fin 72) (j : Fin 2048), i.val = 8 * k + a.val → j.val = 256 * c.val + b.val →
      s8 (ix2 a b) = ws (ix2 i j))
    (hp : ∀ (a : Fin 64) (b : Fin 128) (i : Fin 4608) (j : Fin 1024), i.val = 512 * k + 64 * g.val + a.val →
      j.val = 128 * c.val + b.val → p (ix2 a b) = wp (ix2 i j))
    (b : Fin 64) (l : Fin 128) (d : Fin 4608) (n : Fin 2048) (hd : d.val = 512 * k + 64 * g.val + b.val)
    (hn : n.val = 256 * c.val + 128 * h.val + l.val) :
    wPay k0_pay966 k0_pay967 z8 s8 p g h (ix2 b l) = Wt wp ws wz d n := by
  have hbl := b.isLt
  have hll := l.isLt
  have hhl := h.isLt
  have hgl := g.isLt
  unfold wPay
  rw [shapeCast_self, mulf_apply, subf_apply, sitofp_apply, wCodes_at,
    wRow_at _ g h b l ⟨128 * h.val + l.val, by omega⟩ rfl, wRow_at _ g h b l ⟨128 * h.val + l.val, by omega⟩ rfl, extf_apply,
    hz g _ ⟨d.val / 64, by have := d.isLt; omega⟩ n (by show d.val / 64 = _; omega) (by show n.val = _ + (_ + _); omega),
    hs g _ ⟨d.val / 64, by have := d.isLt; omega⟩ n (by show d.val / 64 = _; omega) (by show n.val = _ + (_ + _); omega),
    hp b (halfL h l) d ⟨n.val / 2, by have := n.isLt; omega⟩ hd (by show n.val / 2 = _ + (64 * h.val + l.val / 2); omega)]
  have hm : l.val % 2 = n.val % 2 := by omega
  rw [hm]
  rfl

end Cert.KernelIdeal.W
-- ==== Proof.Blocks.lean ====
/- What the two loops leave in the buffers they fill, at the extended reals: the canonical contents of all their trips'
   stores, as functions of the blocks they read. -/
module

public import proofs.«01_k».proof.Proof.XSem
public import proofs.«01_k».proof.Proof.WSem
public import proofs.«01_k».proof.Proof.Gen.KernelIdeal.Value
public import Idealize.ShloMosaic.Lib.Pipeline.ValueKit.Geometry

@[expose] public section

set_option maxRecDepth 100000

noncomputable section

namespace Cert.KernelIdeal.Blk

open Cert.KernelIdeal Cert.KernelIdeal.Gen Cert.Spec Cert.KernelIdeal.X Cert.KernelIdeal.W Idealize.ShloMosaic
open Idealize.ShloMosaic.TcCoe Idealize.ShloMosaic.Tactic Idealize.SL.Sem Idealize.ShloMosaic.ValueIdx

/-- A unit-stride rectangle's index map at rank two. -/
theorem emb_ix2 {n0 n1 m0 m1 : ℕ} (off : Fin 2 → ℕ) (inb : ∀ a, off a + (⟨2, ![m0, m1]⟩ : Shape).size a ≤ (⟨2, ![n0, n1]⟩ : Shape).size a)
    (a : Fin m0) (l : Fin m1) (r : Fin n0) (d : Fin n1) (hr : r.val = off 0 + a.val) (hd : d.val = off 1 + l.val) :
    (Rect.unit (s := ⟨2, ![n0, n1]⟩) off (⟨2, ![m0, m1]⟩ : Shape).size inb).emb (ix2 a l) = ix2 r d := by
  funext k
  apply Fin.ext
  refine (ValueKit.rect_emb_unit_val _ _ _ _ _).trans ?_
  match k with
  | ⟨0, _⟩ => exact hr.symm
  | ⟨1, _⟩ => exact hd.symm

/-- A load through it. -/
theorem load_ix2 {sp : Space} {n0 n1 m0 m1 : ℕ} {e : EltTy} (m : Memref sig .tc sp ⟨2, ![n0, n1]⟩ e) (h : m.IsWhole)
    (X : (⟨2, ![n0, n1]⟩ : Shape).Idx → Elt Ideal e) (off : Fin 2 → ℕ)
    (inb : ∀ a, off a + (⟨2, ![m0, m1]⟩ : Shape).size a ≤ (⟨2, ![n0, n1]⟩ : Shape).size a)
    (a : Fin m0) (l : Fin m1) (r : Fin n0) (d : Fin n1) (hr : r.val = off 0 + a.val) (hd : d.val = off 1 + l.val) :
    m.view.readAt (Elt Ideal) (Rect.unit (s := ⟨2, ![n0, n1]⟩) off (⟨2, ![m0, m1]⟩ : Shape).size inb).toLoadRect (h.unread X)
      (ix2 a l) = X (ix2 r d) := by
  rw [View.readAt_eq_ld, h.read_unread]
  exact congrArg X (emb_ix2 off inb a l r d hr hd)

variable (x0 : Vec Ideal S256x4608 .bf16) (x1 : Vec Ideal S4608x1024 .i8) (x2 : Vec Ideal S72x2048 .f32)
  (x3 : Vec Ideal S72x2048 .bf16)

/-- The weight buffer's contents. -/
def GW : Vec Ideal S4608x2048 .bf16 := fun i => Wt x1 x2 x3 (i 0) (i 1)

/-- The quantised rows. -/
def GX : Vec Ideal S256x4608 .bf16 := fun i => XQ x0 (i 0) (i 1)

/-- The packed codes. -/
def GC : Vec Ideal S256x2304 .i8 := fun i => C x0 (i 0) (i 1)

/-- The scales, in the lane order they are stored in. -/
def GS : Vec Ideal S256x128 .f32 := fun i => gS x0 (i 0) (grp (nat6 (i 1)))

theorem wList_pieces (arg2 : Memref sig .tc .vmem S4608x1024 .i8) (harg2 : arg2.IsWhole) (arg3 : Memref sig .tc .vmem S72x2048 .f32) (harg3 : arg3.IsWhole)
    (arg4 : Memref sig .tc .vmem S72x2048 .bf16) (harg4 : arg4.IsWhole) (k : Fin k0_t1_loop.trips) :
    ∀ p ∈ wList (F := Ideal) arg2 arg3 arg4 (harg2.unread x1) (harg3.unread x2) (harg4.unread x3) k, ∀ x : p.1.shape.Idx, p.2 x = GW x1 x2 x3 (p.1.emb x) := by
  intro p hp
  simp only [wList, List.mem_flatMap, List.mem_map] at hp
  obtain ⟨c, -, g, -, h, -, rfl⟩ := hp
  intro x
  have hk := trips9 k
  have hc := c.isLt
  have hg := g.isLt
  have hh := h.isLt
  have e0 : oS k (BitVec.ofNat 32 g.val) c.val h.val 0 = 512 * k.val + 64 * g.val := congrFun (oS_eq k g c h) 0
  have e1 : oS k (BitVec.ofNat 32 g.val) c.val h.val 1 = 256 * c.val + 128 * h.val := congrFun (oS_eq k g c h) 1
  obtain ⟨b, l, rfl⟩ : ∃ (b : Fin 64) (l : Fin 128), x = ix2 b l := ⟨x 0, x 1, eq_ix2 (n0 := 64) (n1 := 128) x⟩
  have hb := b.isLt
  have hl := l.isLt
  have hE := emb_ix2 (n0 := 4608) (n1 := 2048) (m0 := 64) (m1 := 128) (oS k (BitVec.ofNat 32 g.val) c.val h.val) (oS_inb k g c h) b l
    ⟨512 * k.val + 64 * g.val + b.val, by omega⟩ ⟨256 * c.val + 128 * h.val + l.val, by omega⟩ (by rw [e0]) (by rw [e1])
  refine Eq.trans ?_ (congrArg (GW x1 x2 x3) hE).symm
  have z0 : oZ k c.val 0 = 8 * k.val := congrFun (oZ_eq k c) 0
  have z1 : oZ k c.val 1 = 256 * c.val := congrFun (oZ_eq k c) 1
  have p0 : oP k (BitVec.ofNat 32 g.val) c.val 0 = 512 * k.val + 64 * g.val := congrFun (oP_eq k g c) 0
  have p1 : oP k (BitVec.ofNat 32 g.val) c.val 1 = 128 * c.val := congrFun (oP_eq k g c) 1
  exact wPay_at x1 x2 x3 k.val c g h _ _ _
    (fun a b i j hi hj => load_ix2 arg4 harg4 x3 _ (oZ_inb k c) a b i j (by rw [z0]; exact hi) (by rw [z1]; exact hj))
    (fun a b i j hi hj => load_ix2 arg3 harg3 x2 _ (oZ_inb k c) a b i j (by rw [z0]; exact hi) (by rw [z1]; exact hj))
    (fun a b i j hi hj => load_ix2 arg2 harg2 x1 _ (oP_inb k g c) a b i j (by rw [p0]; exact hi) (by rw [p1]; exact hj))
    b l _ _ rfl rfl

theorem ldX_rows (arg1 : Memref sig .tc .vmem S256x4608 .bf16) (harg1 : arg1.IsWhole) (k : Fin k0_t2_loop.trips) (t : Fin 2) :
    Rows x0 (32 * k.val + 16 * t.val) (ldX (F := Ideal) arg1 (harg1.unread x0) k t) := by
  intro j a l r d hr hd
  have e0 : xOff k (BitVec.ofNat 32 (16 * t.val)) j.val 0 = 32 * k.val + 16 * t.val := congrFun (xOff_eq k t j) 0
  have e1 : xOff k (BitVec.ofNat 32 (16 * t.val)) j.val 1 = 128 * j.val := congrFun (xOff_eq k t j) 1
  exact load_ix2 arg1 harg1 x0 _ (xOff_inb k t j) a l r d (by rw [e0]; exact hr) (by rw [e1]; exact hd)

theorem xList_pieces (arg1 : Memref sig .tc .vmem S256x4608 .bf16) (harg1 : arg1.IsWhole) (k : Fin k0_t2_loop.trips) :
    ∀ p ∈ xList (F := Ideal) arg1 (harg1.unread x0) k, ∀ x : p.1.shape.Idx, p.2 x = GX x0 (p.1.emb x) := by
  intro p hp
  simp only [xList, List.mem_flatMap, List.mem_map] at hp
  obtain ⟨j, -, t, -, rfl⟩ := hp
  intro x
  have hk := trips8 k
  have hj := j.isLt
  have ht := t.isLt
  have e0 : xOff k (BitVec.ofNat 32 (16 * t.val)) j.val 0 = 32 * k.val + 16 * t.val := congrFun (xOff_eq k t j) 0
  have e1 : xOff k (BitVec.ofNat 32 (16 * t.val)) j.val 1 = 128 * j.val := congrFun (xOff_eq k t j) 1
  obtain ⟨a, l, rfl⟩ : ∃ (a : Fin 16) (l : Fin 128), x = ix2 a l := ⟨x 0, x 1, eq_ix2 (n0 := 16) (n1 := 128) x⟩
  have ha := a.isLt
  have hl := l.isLt
  have hE := emb_ix2 (n0 := 256) (n1 := 4608) (m0 := 16) (m1 := 128) (xOff k (BitVec.ofNat 32 (16 * t.val)) j.val) (xOff_inb k t j) a l
    ⟨32 * k.val + 16 * t.val + a.val, by omega⟩ ⟨128 * j.val + l.val, by omega⟩ (by rw [e0]) (by rw [e1])
  refine Eq.trans ?_ (congrArg (GX x0) hE).symm
  exact xqPay_at (ldX_rows x0 arg1 harg1 k t) (by omega) j a l _ _ rfl rfl

theorem sList_pieces (arg1 : Memref sig .tc .vmem S256x4608 .bf16) (harg1 : arg1.IsWhole) (k : Fin k0_t2_loop.trips) :
    ∀ p ∈ sList (F := Ideal) arg1 (harg1.unread x0) k, ∀ x : p.1.shape.Idx, p.2 x = GS x0 (p.1.emb x) := by
  intro p hp
  simp only [sList, List.mem_flatMap, List.mem_map] at hp
  obtain ⟨t, -, u, -, rfl⟩ := hp
  intro x
  have hk := trips8 k
  have hu := u.isLt
  have ht := t.isLt
  have e0 : sOff k t u 0 = 32 * k.val + 16 * t.val + 8 * u.val := congrFun (sOff_eq k t u) 0
  have e1 : sOff k t u 1 = 0 := congrFun (sOff_eq k t u) 1
  obtain ⟨a, l, rfl⟩ : ∃ (a : Fin 8) (l : Fin 128), x = ix2 a l := ⟨x 0, x 1, eq_ix2 (n0 := 8) (n1 := 128) x⟩
  have ha := a.isLt
  have hE := emb_ix2 (n0 := 256) (n1 := 128) (m0 := 8) (m1 := 128) (sOff k t u) (sOff_inb k t u) a l
    ⟨32 * k.val + 16 * t.val + 8 * u.val + a.val, by omega⟩ l (by rw [e0]) (by rw [e1, Nat.zero_add])
  refine Eq.trans ?_ (congrArg (GS x0) hE).symm
  exact sPay_at (ldX_rows x0 arg1 harg1 k t) u a l _ rfl

theorem cList_pieces (arg1 : Memref sig .tc .vmem S256x4608 .bf16) (harg1 : arg1.IsWhole) (k : Fin k0_t2_loop.trips) :
    ∀ p ∈ cList (F := Ideal) arg1 (harg1.unread x0) k, ∀ x : p.1.shape.Idx, p.2 x = GC x0 (p.1.emb x) := by
  intro p hp
  simp only [cList, List.mem_map] at hp
  obtain ⟨q, -, rfl⟩ := hp
  intro x
  have hk := trips8 k
  have hq := q.isLt
  have e0 : cOff k q.val 0 = 32 * k.val := congrFun (cOff_eq k q) 0
  have e1 : cOff k q.val 1 = 128 * q.val := congrFun (cOff_eq k q) 1
  obtain ⟨b, l, rfl⟩ : ∃ (b : Fin 32) (l : Fin 128), x = ix2 b l := ⟨x 0, x 1, eq_ix2 (n0 := 32) (n1 := 128) x⟩
  have hb := b.isLt
  have hl := l.isLt
  have hE := emb_ix2 (n0 := 256) (n1 := 2304) (m0 := 32) (m1 := 128) (cOff k q.val) (cOff_inb k q) b l
    ⟨32 * k.val + b.val, by omega⟩ ⟨128 * q.val + l.val, by omega⟩ (by rw [e0]) (by rw [e1])
  refine Eq.trans ?_ (congrArg (GC x0) hE).symm
  exact cPay_at (ldX_rows x0 arg1 harg1 k 0) (ldX_rows x0 arg1 harg1 k 1) (by omega) (cb0 q) (cb1 q) q rfl rfl b l _ _ rfl rfl

theorem pb1_pieces (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : k0_cond1 i = 1#1) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 hc0 (harg2.unread x1) (harg3.unread x2) (harg4.unread x3) n, ∀ x : p.1.shape.Idx, p.2 x = GW x1 x2 x3 (p.1.emb x)
  | 0, _ => by intro p hp; rw [pb_k0_t1.eq_1] at hp; exact absurd hp (List.not_mem_nil)
  | n + 1, h => by
    intro p hp
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 hc0 _ _ _ ⟨n, h⟩, tripL_eq] at hp
    rcases List.mem_append.1 hp with hp | hp
    · exact wList_pieces x1 x2 x3 arg2 harg2 arg3 harg3 arg4 harg4 _ p hp
    · exact pb1_pieces 𝒱 c bd i arg1 harg1 arg2 harg2 arg3 harg3 arg4 harg4 arg5 harg5 arg6 harg6 arg7 harg7 arg8 harg8 arg9 harg9 arg10 harg10 arg11 harg11 arg12 harg12 arg13 harg13 hc0 n (Nat.le_of_succ_le h) p hp

theorem pb1_canon (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : k0_cond1 i = 1#1) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 hc0 (harg2.unread x1) (harg3.unread x2) (harg4.unread x3) (Scf.trips (0#32) (Scalar.addi 0#32 9#32) 1#32)) = GW x1 x2 x3 :=
  funext fun y => View.canon_apply_of_pieces (GW x1 x2 x3) _ (pb1_pieces x1 x2 x3 𝒱 c bd i arg1 harg1 arg2 harg2 arg3 harg3 arg4 harg4 arg5 harg5 arg6 harg6 arg7 harg7 arg8 harg8 arg9 harg9 arg10 harg10 arg11 harg11 arg12 harg12 arg13 harg13 hc0 _ (le_refl _)) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 hc0 (harg2.unread x1) (harg3.unread x2) (harg4.unread x3) (Scf.trips (0#32) (Scalar.addi 0#32 9#32) 1#32)) S64x128.size (by sl_kernel_rfl) y)

theorem pb2_pieces (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) :
    ∀ n, n ≤ k0_t2_loop.trips →
      (∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) n).1, ∀ x : p.1.shape.Idx, p.2 x = GC x0 (p.1.emb x)) ∧
      (∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) n).2.1, ∀ x : p.1.shape.Idx, p.2 x = GX x0 (p.1.emb x)) ∧
      (∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) n).2.2, ∀ x : p.1.shape.Idx, p.2 x = GS x0 (p.1.emb x))
  | 0, _ => by
    rw [pb_k0_t2.eq_1]
    exact ⟨fun p hp => absurd hp List.not_mem_nil, fun p hp => absurd hp List.not_mem_nil, fun p hp => absurd hp List.not_mem_nil⟩
  | n + 1, h => by
    have ih := pb2_pieces 𝒱 c bd i arg1 harg1 arg2 harg2 arg3 harg3 arg4 harg4 arg5 harg5 arg6 harg6 arg7 harg7 arg8 harg8 arg9 harg9 arg10 harg10 arg11 harg11 arg12 harg12 arg13 harg13 n (Nat.le_of_succ_le h)
    rw [pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 _ ⟨n, h⟩, tripC_eq, tripX_eq, tripS_eq]
    refine ⟨fun p hp => ?_, fun p hp => ?_, fun p hp => ?_⟩
    · rcases List.mem_append.1 hp with hp | hp
      · exact cList_pieces x0 arg1 harg1 _ p hp
      · exact ih.1 p hp
    · rcases List.mem_append.1 hp with hp | hp
      · exact xList_pieces x0 arg1 harg1 _ p hp
      · exact ih.2.1 p hp
    · rcases List.mem_append.1 hp with hp | hp
      · exact sList_pieces x0 arg1 harg1 _ p hp
      · exact ih.2.2 p hp

theorem pb2_canonC (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (Scf.trips (0#32) (Scalar.addi 0#32 8#32) 1#32)).1 = GC x0 :=
  funext fun y => View.canon_apply_of_pieces (GC x0) _ (pb2_pieces x0 𝒱 c bd i arg1 harg1 arg2 harg2 arg3 harg3 arg4 harg4 arg5 harg5 arg6 harg6 arg7 harg7 arg8 harg8 arg9 harg9 arg10 harg10 arg11 harg11 arg12 harg12 arg13 harg13 _ (le_refl _)).1 y
    (View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (Scf.trips (0#32) (Scalar.addi 0#32 8#32) 1#32)).1 S32x128.size (by sl_kernel_rfl) y)

theorem pb2_canonX (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (Scf.trips (0#32) (Scalar.addi 0#32 8#32) 1#32)).2.1 = GX x0 :=
  funext fun y => View.canon_apply_of_pieces (GX x0) _ (pb2_pieces x0 𝒱 c bd i arg1 harg1 arg2 harg2 arg3 harg3 arg4 harg4 arg5 harg5 arg6 harg6 arg7 harg7 arg8 harg8 arg9 harg9 arg10 harg10 arg11 harg11 arg12 harg12 arg13 harg13 _ (le_refl _)).2.1 y
    (View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (Scf.trips (0#32) (Scalar.addi 0#32 8#32) 1#32)).2.1 S16x128.size (by sl_kernel_rfl) y)

theorem pb2_canonS (𝒱 : Variants) (c : Dev nD) (bd : Option 𝒱.V) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (Scf.trips (0#32) (Scalar.addi 0#32 8#32) 1#32)).2.2 = GS x0 :=
  funext fun y => View.canon_apply_of_pieces (GS x0) _ (pb2_pieces x0 𝒱 c bd i arg1 harg1 arg2 harg2 arg3 harg3 arg4 harg4 arg5 harg5 arg6 harg6 arg7 harg7 arg8 harg8 arg9 harg9 arg10 harg10 arg11 harg11 arg12 harg12 arg13 harg13 _ (le_refl _)).2.2 y
    (View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (Scf.trips (0#32) (Scalar.addi 0#32 8#32) 1#32)).2.2 S8x128.size (by sl_kernel_rfl) y)

end Cert.KernelIdeal.Blk
-- ==== Proof.YBlock.lean ====
/- What one grid point leaves in its three output blocks and in the weight buffer, at the extended reals, as functions of
   its input blocks (and, after the first point, of the weight buffer it finds). -/
module

public import proofs.«01_k».proof.Proof.Blocks
public import Idealize.ShloMosaic.Lib.MatmulPlain

@[expose] public section

set_option maxRecDepth 100000

noncomputable section

namespace Cert.KernelIdeal.Blk

open Cert.KernelIdeal Cert.KernelIdeal.Gen Cert.Spec Cert.KernelIdeal.X Cert.KernelIdeal.W Idealize.ShloMosaic
open Idealize.ShloMosaic.TcCoe Idealize.ShloMosaic.Tactic Idealize.SL.Sem Idealize.ShloMosaic.ValueIdx

/-- The output block over the weight buffer `w`: quantised rows times weights, plus the low-rank product of the rows. -/
def YW (x0 : S256x4608.Idx → EReal) (w : S4608x2048.Idx → EReal) (x4 : S64x4608.Idx → EReal) (x5 : S64x2048.Idx → EReal)
    (r : Fin 256) (n : Fin 2048) : EReal :=
  (∑ d : Fin 4608, XQ x0 r d * w (ix2 d n)) + ∑ j : Fin 64, (∑ d : Fin 4608, x4 (ix2 j d) * x0 (ix2 r d)) * x5 (ix2 j n)

def GY (x0 : Vec Ideal S256x4608 .bf16) (w : Vec Ideal S4608x2048 .bf16) (x4 : Vec Ideal S64x4608 .bf16)
    (x5 : Vec Ideal S64x2048 .bf16) : Vec Ideal S256x2048 .bf16 := fun i => YW x0 w x4 x5 (i 0) (i 1)

/-- The scale block: group by row. -/
def GT (x0 : Vec Ideal S256x4608 .bf16) : Vec Ideal S1x72x256 .f32 := fun i => gS x0 (i 2) (i 1)

theorem zero_at (s : Shape) (j : s.Idx) : (constant s .f32 0x00000000#32 : FVec Ideal s .f32) j = 0 := ofBits_zero32

theorem pay971_at (l1t : Vec Ideal S64x4608 .bf16) (x : Vec Ideal S256x4608 .bf16) (r : Fin 256) (j : Fin 64) :
    k0_pay971 l1t x (ix2 r j) = ∑ d : Fin 4608, l1t (ix2 j d) * x (ix2 r d) := by
  unfold k0_pay971
  rw [truncf_apply, transpose_ix2_apply, shapeCast_self, shapeCast_self]
  exact (Ideal.matmul_transposedRhs_apply (M := 64) (K := 4608) (N := 256) none l1t x (constant S64x256 .f32 0x00000000#32) j r).trans
    (by rw [zero_at, zero_add])

theorem pay1_at (t : FVec Ideal S256x64 .bf16) (xq : Vec Ideal S256x4608 .bf16) (w : Vec Ideal S4608x512 .bf16)
    (l2 : Vec Ideal S64x512 .bf16) (r : Fin 256) (c : Fin 512) :
    k0_pay1 t xq w l2 (ix2 r c) = (∑ d : Fin 4608, xq (ix2 r d) * w (ix2 d c)) + ∑ j : Fin 64, t (ix2 r j) * l2 (ix2 j c) := by
  unfold k0_pay1
  rw [truncf_apply, addf_apply]
  exact congrArg₂ (· + ·)
    ((Ideal.matmul_plain_apply (M := 256) (K := 4608) (N := 512) none xq w (constant S256x512 .f32 0x00000000#32) r c).trans
      (by rw [zero_at, zero_add]))
    ((Ideal.matmul_plain_apply (M := 256) (K := 64) (N := 512) none t l2 (constant S256x512 .f32 0x00000000#32) r c).trans
      (by rw [zero_at, zero_add]))

/-- One of the four column blocks of the output. -/
theorem y_piece (x0 : Vec Ideal S256x4608 .bf16) (w : Vec Ideal S4608x2048 .bf16) (x4 : Vec Ideal S64x4608 .bf16)
    (x5 : Vec Ideal S64x2048 .bf16) (o : ℕ) (inb : ∀ a, (![0, o] : Fin 2 → ℕ) a + S256x512.size a ≤ S256x2048.size a) (ho : o + 512 ≤ 2048)
    (l1t : Vec Ideal S64x4608 .bf16) (x xq : Vec Ideal S256x4608 .bf16) (w' : Vec Ideal S4608x512 .bf16) (l2 : Vec Ideal S64x512 .bf16)
    (P : Vec Ideal S256x512 .bf16) (hP : P = k0_pay1 (k0_pay971 l1t x) xq w' l2) (h1 : l1t = x4) (hx : x = x0) (hq : xq = GX x0)
    (hw : ∀ (d : Fin 4608) (c : Fin 512) (n : Fin 2048), n.val = o + c.val → w' (ix2 d c) = w (ix2 d n))
    (hl : ∀ (j : Fin 64) (c : Fin 512) (n : Fin 2048), n.val = o + c.val → l2 (ix2 j c) = x5 (ix2 j n)) :
    ∀ z : (Rect.unit (s := S256x2048) ![0, o] S256x512.size inb).shape.Idx, P z = GY x0 w x4 x5 ((Rect.unit (s := S256x2048) ![0, o] S256x512.size inb).emb z) := by
  subst hP h1 hx hq
  intro z
  obtain ⟨a, l, rfl⟩ : ∃ (a : Fin 256) (l : Fin 512), z = ix2 a l := ⟨z 0, z 1, eq_ix2 (n0 := 256) (n1 := 512) z⟩
  have hl' := l.isLt
  have hE := emb_ix2 (n0 := 256) (n1 := 2048) (m0 := 256) (m1 := 512) ![0, o] inb a l a ⟨o + l.val, by omega⟩
    (Nat.zero_add _).symm rfl
  refine Eq.trans ?_ (congrArg (GY x w l1t x5) hE).symm
  refine (pay1_at _ _ _ _ a l).trans ?_
  refine congrArg₂ (· + ·) (Finset.sum_congr rfl fun d _ => ?_) (Finset.sum_congr rfl fun j _ => ?_)
  · rw [hw d l ⟨o + l.val, by omega⟩ rfl]; try rfl
  · rw [hl j l ⟨o + l.val, by omega⟩ rfl, pay971_at]

theorem scale_piece (x0 : Vec Ideal S256x4608 .bf16) (v : Vec Ideal S256x128 .f32) (hv : v = GS x0) : k0_pay970 v = GT x0 := by
  subst hv
  funext z
  obtain ⟨u, g, r, rfl⟩ : ∃ (u : Fin 1) (g : Fin 72) (r : Fin 256), z = ix3 u g r := ⟨z 0, z 1, z 2, eq_ix3 (n0 := 1) (n1 := 72) (n2 := 256) z⟩
  unfold k0_pay970
  rw [shapeCast_ab_1ab_apply]
  refine (slice2_axis0_apply 0 _ slices_S128x256_o0_0_S72x256 g r ⟨g.val, by have := g.isLt; omega⟩ (Nat.zero_add _).symm).trans ?_
  rw [transpose_ix2_apply]
  show gS x0 r (grp (nat6 _)) = gS x0 r g
  exact congrArg (gS x0 r) (Fin.ext (grp_nat6 _ g.isLt))

theorem readAt_whole {n0 n1 : ℕ} {sp : Space} {e : EltTy} (m : Memref sig .tc sp ⟨2, ![n0, n1]⟩ e) (h : m.IsWhole)
    (X : (⟨2, ![n0, n1]⟩ : Shape).Idx → Elt Ideal e)
    (inb : ∀ a, (![0, 0] : Fin 2 → ℕ) a + (⟨2, ![n0, n1]⟩ : Shape).size a ≤ (⟨2, ![n0, n1]⟩ : Shape).size a) :
    m.view.readAt (Elt Ideal) (Rect.unit (s := ⟨2, ![n0, n1]⟩) ![0, 0] (⟨2, ![n0, n1]⟩ : Shape).size inb).toLoadRect (h.unread X) = X := by
  funext z
  obtain ⟨a, l, rfl⟩ : ∃ (a : Fin n0) (l : Fin n1), z = ix2 a l := ⟨z 0, z 1, eq_ix2 (n0 := n0) (n1 := n1) z⟩
  exact load_ix2 m h X _ inb a l a l (Nat.zero_add _).symm (Nat.zero_add _).symm

theorem readCov_whole {n0 n1 : ℕ} {sp : Space} {e : EltTy} (m : Memref sig .tc sp ⟨2, ![n0, n1]⟩ e)
    (L : List (View.Piece (Elt Ideal) ⟨2, ![n0, n1]⟩ e)) (X : (⟨2, ![n0, n1]⟩ : Shape).Idx → Elt Ideal e) (hL : View.canon L = X)
    (inb : ∀ a, (![0, 0] : Fin 2 → ℕ) a + (⟨2, ![n0, n1]⟩ : Shape).size a ≤ (⟨2, ![n0, n1]⟩ : Shape).size a) :
    m.view.readCov L (Rect.unit (s := ⟨2, ![n0, n1]⟩) ![0, 0] (⟨2, ![n0, n1]⟩ : Shape).size inb).toLoadRect = X := by
  rw [View.readCov_eq_canon', hL]
  funext z
  obtain ⟨a, l, rfl⟩ : ∃ (a : Fin n0) (l : Fin n1), z = ix2 a l := ⟨z 0, z 1, eq_ix2 (n0 := n0) (n1 := n1) z⟩
  exact congrArg X (emb_ix2 ![0, 0] inb a l a l (Nat.zero_add _).symm (Nat.zero_add _).symm)

theorem readCov_ix2 {n0 n1 m0 m1 : ℕ} {sp : Space} {e : EltTy} (m : Memref sig .tc sp ⟨2, ![n0, n1]⟩ e)
    (L : List (View.Piece (Elt Ideal) ⟨2, ![n0, n1]⟩ e)) (X : (⟨2, ![n0, n1]⟩ : Shape).Idx → Elt Ideal e) (hL : View.canon L = X)
    (off : Fin 2 → ℕ) (inb : ∀ a, off a + (⟨2, ![m0, m1]⟩ : Shape).size a ≤ (⟨2, ![n0, n1]⟩ : Shape).size a)
    (a : Fin m0) (l : Fin m1) (r : Fin n0) (d : Fin n1) (hr : r.val = off 0 + a.val) (hd : d.val = off 1 + l.val) :
    m.view.readCov L (Rect.unit (s := ⟨2, ![n0, n1]⟩) off (⟨2, ![m0, m1]⟩ : Shape).size inb).toLoadRect (ix2 a l) = X (ix2 r d) := by
  rw [View.readCov_eq_canon', hL]
  exact congrArg X (emb_ix2 off inb a l r d hr hd)

variable (x0 : Vec Ideal S256x4608 .bf16) (x1 : Vec Ideal S4608x1024 .i8) (x2 : Vec Ideal S72x2048 .f32)
  (x3 : Vec Ideal S72x2048 .bf16) (x4 : Vec Ideal S64x4608 .bf16) (x5 : Vec Ideal S64x2048 .bf16)

theorem y_pieces_A (c : Dev nD) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : cond0_0 i) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).1, ∀ z : p.1.shape.Idx, p.2 z = GY x0 (GW x1 x2 x3) x4 x5 (p.1.emb z) := by
  intro p hp
  unfold kernelRun0_A at hp
  dsimp only at hp
  simp only [List.mem_cons, List.not_mem_nil, or_false] at hp
  rcases hp with rfl | rfl | rfl | rfl
  · exact y_piece x0 (GW x1 x2 x3) x4 x5 1536 inb_S256x2048_S256x512_0_1536 (by decide) _ _ _ _ _ _ rfl (readAt_whole arg5 harg5 x4 inb_S64x4608_S64x4608_0_0) (readAt_whole arg1 harg1 x0 inb_S256x4608_S256x4608_0_0)
      (readCov_whole arg12 _ _ (pb2_canonX x0 Variants.none c none i arg1 harg1 arg2 harg2 arg3 harg3 arg4 harg4 arg5 harg5 arg6 harg6 arg7 harg7 arg8 harg8 arg9 harg9 arg10 harg10 arg11 harg11 arg12 harg12 arg13 harg13) inb_S256x4608_S256x4608_0_0)
      (fun d c' n hn => readCov_ix2 (n0 := 4608) (n1 := 2048) (m0 := 4608) (m1 := 512) arg10 _ _ (pb1_canon x1 x2 x3 Variants.none c none i arg1 harg1 arg2 harg2 arg3 harg3 arg4 harg4 arg5 harg5 arg6 harg6 arg7 harg7 arg8 harg8 arg9 harg9 arg10 harg10 arg11 harg11 arg12 harg12 arg13 harg13 hc0) ![0, 1536] inb_S4608x2048_S4608x512_0_1536 d c' d n (Nat.zero_add _).symm hn)
      (fun j c' n hn => load_ix2 (n0 := 64) (n1 := 2048) (m0 := 64) (m1 := 512) arg6 harg6 x5 ![0, 1536] inb_S64x2048_S64x512_0_1536 j c' j n (Nat.zero_add _).symm hn)
  · exact y_piece x0 (GW x1 x2 x3) x4 x5 1024 inb_S256x2048_S256x512_0_1024 (by decide) _ _ _ _ _ _ rfl (readAt_whole arg5 harg5 x4 inb_S64x4608_S64x4608_0_0) (readAt_whole arg1 harg1 x0 inb_S256x4608_S256x4608_0_0)
      (readCov_whole arg12 _ _ (pb2_canonX x0 Variants.none c none i arg1 harg1 arg2 harg2 arg3 harg3 arg4 harg4 arg5 harg5 arg6 harg6 arg7 harg7 arg8 harg8 arg9 harg9 arg10 harg10 arg11 harg11 arg12 harg12 arg13 harg13) inb_S256x4608_S256x4608_0_0)
      (fun d c' n hn => readCov_ix2 (n0 := 4608) (n1 := 2048) (m0 := 4608) (m1 := 512) arg10 _ _ (pb1_canon x1 x2 x3 Variants.none c none i arg1 harg1 arg2 harg2 arg3 harg3 arg4 harg4 arg5 harg5 arg6 harg6 arg7 harg7 arg8 harg8 arg9 harg9 arg10 harg10 arg11 harg11 arg12 harg12 arg13 harg13 hc0) ![0, 1024] inb_S4608x2048_S4608x512_0_1024 d c' d n (Nat.zero_add _).symm hn)
      (fun j c' n hn => load_ix2 (n0 := 64) (n1 := 2048) (m0 := 64) (m1 := 512) arg6 harg6 x5 ![0, 1024] inb_S64x2048_S64x512_0_1024 j c' j n (Nat.zero_add _).symm hn)
  · exact y_piece x0 (GW x1 x2 x3) x4 x5 512 inb_S256x2048_S256x512_0_512 (by decide) _ _ _ _ _ _ rfl (readAt_whole arg5 harg5 x4 inb_S64x4608_S64x4608_0_0) (readAt_whole arg1 harg1 x0 inb_S256x4608_S256x4608_0_0)
      (readCov_whole arg12 _ _ (pb2_canonX x0 Variants.none c none i arg1 harg1 arg2 harg2 arg3 harg3 arg4 harg4 arg5 harg5 arg6 harg6 arg7 harg7 arg8 harg8 arg9 harg9 arg10 harg10 arg11 harg11 arg12 harg12 arg13 harg13) inb_S256x4608_S256x4608_0_0)
      (fun d c' n hn => readCov_ix2 (n0 := 4608) (n1 := 2048) (m0 := 4608) (m1 := 512) arg10 _ _ (pb1_canon x1 x2 x3 Variants.none c none i arg1 harg1 arg2 harg2 arg3 harg3 arg4 harg4 arg5 harg5 arg6 harg6 arg7 harg7 arg8 harg8 arg9 harg9 arg10 harg10 arg11 harg11 arg12 harg12 arg13 harg13 hc0) ![0, 512] inb_S4608x2048_S4608x512_0_512 d c' d n (Nat.zero_add _).symm hn)
      (fun j c' n hn => load_ix2 (n0 := 64) (n1 := 2048) (m0 := 64) (m1 := 512) arg6 harg6 x5 ![0, 512] inb_S64x2048_S64x512_0_512 j c' j n (Nat.zero_add _).symm hn)
  · exact y_piece x0 (GW x1 x2 x3) x4 x5 0 inb_S256x2048_S256x512_0_0 (by decide) _ _ _ _ _ _ rfl (readAt_whole arg5 harg5 x4 inb_S64x4608_S64x4608_0_0) (readAt_whole arg1 harg1 x0 inb_S256x4608_S256x4608_0_0)
      (readCov_whole arg12 _ _ (pb2_canonX x0 Variants.none c none i arg1 harg1 arg2 harg2 arg3 harg3 arg4 harg4 arg5 harg5 arg6 harg6 arg7 harg7 arg8 harg8 arg9 harg9 arg10 harg10 arg11 harg11 arg12 harg12 arg13 harg13) inb_S256x4608_S256x4608_0_0)
      (fun d c' n hn => readCov_ix2 (n0 := 4608) (n1 := 2048) (m0 := 4608) (m1 := 512) arg10 _ _ (pb1_canon x1 x2 x3 Variants.none c none i arg1 harg1 arg2 harg2 arg3 harg3 arg4 harg4 arg5 harg5 arg6 harg6 arg7 harg7 arg8 harg8 arg9 harg9 arg10 harg10 arg11 harg11 arg12 harg12 arg13 harg13 hc0) ![0, 0] inb_S4608x2048_S4608x512_0_0 d c' d n (Nat.zero_add _).symm hn)
      (fun j c' n hn => load_ix2 (n0 := 64) (n1 := 2048) (m0 := 64) (m1 := 512) arg6 harg6 x5 ![0, 0] inb_S64x2048_S64x512_0_0 j c' j n (Nat.zero_add _).symm hn)

theorem out_A_6 (c : Dev nD) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : cond0_0 i) : out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = GY x0 (GW x1 x2 x3) x4 x5 := by
  unfold out0_A_6
  rw [View.read_writes_junk_eq_canon]
  exact funext fun y => View.canon_apply_of_pieces _ _ (y_pieces_A x0 x1 x2 x3 x4 x5 c i arg1 harg1 arg2 harg2 arg3 harg3 arg4 harg4 arg5 harg5 arg6 harg6 arg7 harg7 arg8 harg8 arg9 harg9 arg10 harg10 arg11 harg11 arg12 harg12 arg13 harg13 hc0) y (cover0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 y)

theorem out_A_7 (c : Dev nD) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : cond0_0 i) : out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = GC x0 := by
  unfold out0_A_7
  rw [View.read_writes_junk_eq_canon]
  unfold kernelRun0_A
  dsimp only
  exact pb2_canonC x0 Variants.none c none i arg1 harg1 arg2 harg2 arg3 harg3 arg4 harg4 arg5 harg5 arg6 harg6 arg7 harg7 arg8 harg8 arg9 harg9 arg10 harg10 arg11 harg11 arg12 harg12 arg13 harg13

theorem out_A_8 (c : Dev nD) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = GT x0 := by
  unfold out0_A_8
  rw [View.read_writes_junk_eq_canon]
  unfold kernelRun0_A
  dsimp only
  refine (View.canon_cons_unit_zero (by funext a; fin_cases a <;> rfl) _ _ _).trans ?_
  exact scale_piece x0 _ (readCov_whole arg13 _ _ (pb2_canonS x0 Variants.none c none i arg1 harg1 arg2 harg2 arg3 harg3 arg4 harg4 arg5 harg5 arg6 harg6 arg7 harg7 arg8 harg8 arg9 harg9 arg10 harg10 arg11 harg11 arg12 harg12 arg13 harg13) inb_S256x128_S256x128_0_0)

theorem sout_A (c : Dev nD) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : cond0_0 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = GW x1 x2 x3 := by
  unfold sout0_A_0
  rw [View.read_writes_junk_eq_canon]
  unfold kernelRun0_A
  dsimp only
  exact pb1_canon x1 x2 x3 Variants.none c none i arg1 harg1 arg2 harg2 arg3 harg3 arg4 harg4 arg5 harg5 arg6 harg6 arg7 harg7 arg8 harg8 arg9 harg9 arg10 harg10 arg11 harg11 arg12 harg12 arg13 harg13 hc0

theorem y_pieces_B (c : Dev nD) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : ¬cond0_0 i) (xs0 : Vec Ideal S4608x2048 .bf16) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0).1, ∀ z : p.1.shape.Idx, p.2 z = GY x0 xs0 x4 x5 (p.1.emb z) := by
  intro p hp
  unfold kernelRun0_B at hp
  dsimp only at hp
  simp only [List.mem_cons, List.not_mem_nil, or_false] at hp
  rcases hp with rfl | rfl | rfl | rfl
  · exact y_piece x0 xs0 x4 x5 1536 inb_S256x2048_S256x512_0_1536 (by decide) _ _ _ _ _ _ rfl (readAt_whole arg5 harg5 x4 inb_S64x4608_S64x4608_0_0) (readAt_whole arg1 harg1 x0 inb_S256x4608_S256x4608_0_0)
      (readCov_whole arg12 _ _ (pb2_canonX x0 Variants.none c none i arg1 harg1 arg2 harg2 arg3 harg3 arg4 harg4 arg5 harg5 arg6 harg6 arg7 harg7 arg8 harg8 arg9 harg9 arg10 harg10 arg11 harg11 arg12 harg12 arg13 harg13) inb_S256x4608_S256x4608_0_0)
      (fun d c' n hn => load_ix2 (n0 := 4608) (n1 := 2048) (m0 := 4608) (m1 := 512) arg10 harg10 xs0 ![0, 1536] inb_S4608x2048_S4608x512_0_1536 d c' d n (Nat.zero_add _).symm hn)
      (fun j c' n hn => load_ix2 (n0 := 64) (n1 := 2048) (m0 := 64) (m1 := 512) arg6 harg6 x5 ![0, 1536] inb_S64x2048_S64x512_0_1536 j c' j n (Nat.zero_add _).symm hn)
  · exact y_piece x0 xs0 x4 x5 1024 inb_S256x2048_S256x512_0_1024 (by decide) _ _ _ _ _ _ rfl (readAt_whole arg5 harg5 x4 inb_S64x4608_S64x4608_0_0) (readAt_whole arg1 harg1 x0 inb_S256x4608_S256x4608_0_0)
      (readCov_whole arg12 _ _ (pb2_canonX x0 Variants.none c none i arg1 harg1 arg2 harg2 arg3 harg3 arg4 harg4 arg5 harg5 arg6 harg6 arg7 harg7 arg8 harg8 arg9 harg9 arg10 harg10 arg11 harg11 arg12 harg12 arg13 harg13) inb_S256x4608_S256x4608_0_0)
      (fun d c' n hn => load_ix2 (n0 := 4608) (n1 := 2048) (m0 := 4608) (m1 := 512) arg10 harg10 xs0 ![0, 1024] inb_S4608x2048_S4608x512_0_1024 d c' d n (Nat.zero_add _).symm hn)
      (fun j c' n hn => load_ix2 (n0 := 64) (n1 := 2048) (m0 := 64) (m1 := 512) arg6 harg6 x5 ![0, 1024] inb_S64x2048_S64x512_0_1024 j c' j n (Nat.zero_add _).symm hn)
  · exact y_piece x0 xs0 x4 x5 512 inb_S256x2048_S256x512_0_512 (by decide) _ _ _ _ _ _ rfl (readAt_whole arg5 harg5 x4 inb_S64x4608_S64x4608_0_0) (readAt_whole arg1 harg1 x0 inb_S256x4608_S256x4608_0_0)
      (readCov_whole arg12 _ _ (pb2_canonX x0 Variants.none c none i arg1 harg1 arg2 harg2 arg3 harg3 arg4 harg4 arg5 harg5 arg6 harg6 arg7 harg7 arg8 harg8 arg9 harg9 arg10 harg10 arg11 harg11 arg12 harg12 arg13 harg13) inb_S256x4608_S256x4608_0_0)
      (fun d c' n hn => load_ix2 (n0 := 4608) (n1 := 2048) (m0 := 4608) (m1 := 512) arg10 harg10 xs0 ![0, 512] inb_S4608x2048_S4608x512_0_512 d c' d n (Nat.zero_add _).symm hn)
      (fun j c' n hn => load_ix2 (n0 := 64) (n1 := 2048) (m0 := 64) (m1 := 512) arg6 harg6 x5 ![0, 512] inb_S64x2048_S64x512_0_512 j c' j n (Nat.zero_add _).symm hn)
  · exact y_piece x0 xs0 x4 x5 0 inb_S256x2048_S256x512_0_0 (by decide) _ _ _ _ _ _ rfl (readAt_whole arg5 harg5 x4 inb_S64x4608_S64x4608_0_0) (readAt_whole arg1 harg1 x0 inb_S256x4608_S256x4608_0_0)
      (readCov_whole arg12 _ _ (pb2_canonX x0 Variants.none c none i arg1 harg1 arg2 harg2 arg3 harg3 arg4 harg4 arg5 harg5 arg6 harg6 arg7 harg7 arg8 harg8 arg9 harg9 arg10 harg10 arg11 harg11 arg12 harg12 arg13 harg13) inb_S256x4608_S256x4608_0_0)
      (fun d c' n hn => load_ix2 (n0 := 4608) (n1 := 2048) (m0 := 4608) (m1 := 512) arg10 harg10 xs0 ![0, 0] inb_S4608x2048_S4608x512_0_0 d c' d n (Nat.zero_add _).symm hn)
      (fun j c' n hn => load_ix2 (n0 := 64) (n1 := 2048) (m0 := 64) (m1 := 512) arg6 harg6 x5 ![0, 0] inb_S64x2048_S64x512_0_0 j c' j n (Nat.zero_add _).symm hn)

theorem out_B_6 (c : Dev nD) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : ¬cond0_0 i) (xs0 : Vec Ideal S4608x2048 .bf16) : out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 = GY x0 xs0 x4 x5 := by
  unfold out0_B_6
  rw [View.read_writes_junk_eq_canon]
  exact funext fun y => View.canon_apply_of_pieces _ _ (y_pieces_B x0 x1 x2 x3 x4 x5 c i arg1 harg1 arg2 harg2 arg3 harg3 arg4 harg4 arg5 harg5 arg6 harg6 arg7 harg7 arg8 harg8 arg9 harg9 arg10 harg10 arg11 harg11 arg12 harg12 arg13 harg13 hc0 xs0) y (cover0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 y)

theorem out_B_7 (c : Dev nD) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : ¬cond0_0 i) (xs0 : Vec Ideal S4608x2048 .bf16) : out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 = GC x0 := by
  unfold out0_B_7
  rw [View.read_writes_junk_eq_canon]
  unfold kernelRun0_B
  dsimp only
  exact pb2_canonC x0 Variants.none c none i arg1 harg1 arg2 harg2 arg3 harg3 arg4 harg4 arg5 harg5 arg6 harg6 arg7 harg7 arg8 harg8 arg9 harg9 arg10 harg10 arg11 harg11 arg12 harg12 arg13 harg13

theorem out_B_8 (c : Dev nD) (i : grid0.Coords) (arg1 : Memref sig .tc .vmem S256x4608 .bf16) (harg1 : arg1.IsWhole) (arg2 : Memref sig .tc .vmem S4608x1024 .i8) (harg2 : arg2.IsWhole) (arg3 : Memref sig .tc .vmem S72x2048 .f32) (harg3 : arg3.IsWhole) (arg4 : Memref sig .tc .vmem S72x2048 .bf16) (harg4 : arg4.IsWhole) (arg5 : Memref sig .tc .vmem S64x4608 .bf16) (harg5 : arg5.IsWhole) (arg6 : Memref sig .tc .vmem S64x2048 .bf16) (harg6 : arg6.IsWhole) (arg7 : Memref sig .tc .vmem S256x2048 .bf16) (harg7 : arg7.IsWhole) (arg8 : Memref sig .tc .vmem S256x2304 .i8) (harg8 : arg8.IsWhole) (arg9 : Memref sig .tc .vmem S1x72x256 .f32) (harg9 : arg9.IsWhole) (arg10 : Memref sig .tc .vmem S4608x2048 .bf16) (harg10 : arg10.IsWhole) (arg11 : Memref sig .tc .vmem S72x2048 .f32) (harg11 : arg11.IsWhole) (arg12 : Memref sig .tc .vmem S256x4608 .bf16) (harg12 : arg12.IsWhole) (arg13 : Memref sig .tc .vmem S256x128 .f32) (harg13 : arg13.IsWhole) (hc0 : ¬cond0_0 i) (xs0 : Vec Ideal S4608x2048 .bf16) : out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 = GT x0 := by
  unfold out0_B_8
  rw [View.read_writes_junk_eq_canon]
  unfold kernelRun0_B
  dsimp only
  refine (View.canon_cons_unit_zero (by funext a; fin_cases a <;> rfl) _ _ _).trans ?_
  exact scale_piece x0 _ (readCov_whole arg13 _ _ (pb2_canonS x0 Variants.none c none i arg1 harg1 arg2 harg2 arg3 harg3 arg4 harg4 arg5 harg5 arg6 harg6 arg7 harg7 arg8 harg8 arg9 harg9 arg10 harg10 arg11 harg11 arg12 harg12 arg13 harg13) inb_S256x128_S256x128_0_0)

end Cert.KernelIdeal.Blk
-- ==== Proof.Global.lean ====
/- The problem's three results, row by row, over the extended reals: what both programs are shown to compute. -/
module

public import proofs.«01_k».proof.Proof.Spec

@[expose] public section

noncomputable section

namespace Cert.Spec

/-- The group column `d` is in. -/
def grpOf (d : Fin 4608) : Fin 72 := ⟨d.val / 64, by have := d.isLt; omega⟩

/-- The scale of group `g` of the row `f`. -/
def rowS (f : Fin 4608 → EReal) (g : Fin 72) : EReal :=
  scOf (gmax fun u : Fin 64 => f ⟨64 * g.val + u.val, by have := g.isLt; have := u.isLt; omega⟩)

/-- The code at column `d`, as a number. -/
def rowQ (f : Fin 4608 → EReal) (d : Fin 4608) : EReal := qOf (f d) (rowS f (grpOf d))

/-- The packed pair of codes at byte `e`. -/
def rowC (f : Fin 4608 → EReal) (e : Fin 2304) : BitVec 8 :=
  packOf (cOf (rowQ f ⟨2 * e.val, by have := e.isLt; omega⟩)) (cOf (rowQ f ⟨2 * e.val + 1, by have := e.isLt; omega⟩))

/-- The weight at row `d`, column `n`. -/
def wtAt (WP : Fin 4608 → Fin 1024 → BitVec 8) (WS WZ : Fin 72 → Fin 2048 → EReal) (d : Fin 4608) (n : Fin 2048) : EReal :=
  wOf (WP d ⟨n.val / 2, by have := n.isLt; omega⟩) (n.val % 2) (WZ (grpOf d) n) (WS (grpOf d) n)

/-- The output at column `n`: the quantised row times the weights, plus the low-rank product of the row. -/
def rowY (f : Fin 4608 → EReal) (W : Fin 4608 → Fin 2048 → EReal) (L1 : Fin 4608 → Fin 64 → EReal) (L2 : Fin 64 → Fin 2048 → EReal)
    (n : Fin 2048) : EReal :=
  (∑ d : Fin 4608, rowQ f d * rowS f (grpOf d) * W d n) + ∑ j : Fin 64, (∑ d : Fin 4608, f d * L1 d j) * L2 j n

end Cert.Spec
-- ==== Proof.Final.lean ====
/- The kernel's three result arrays, entry by entry, at the extended reals. -/
module

public import proofs.«01_k».proof.Proof.YBlock
public import proofs.«01_k».proof.Proof.Global

@[expose] public section

set_option maxRecDepth 100000

noncomputable section

namespace Cert.KernelIdeal.Blk

open Cert.KernelIdeal Cert.KernelIdeal.Gen Cert.KernelIdeal.Value Cert.Spec Cert.KernelIdeal.X Cert.KernelIdeal.W Idealize.ShloMosaic
open Idealize.ShloMosaic.TcCoe Idealize.ShloMosaic.Tactic Idealize.SL.Sem Idealize.ShloMosaic.ValueIdx

variable (m : (ℓ : Loc nD τ sig) → Buf (Elt Ideal) ℓ)

/-- The arguments, as arrays. -/
abbrev aX (c : Dev nD) : S4x1024x4608.Idx → EReal := m ((c : Thread nD τ).loc main_arg0)
abbrev aP (c : Dev nD) : S4608x1024.Idx → BitVec 8 := m ((c : Thread nD τ).loc main_arg1)
abbrev aS (c : Dev nD) : S72x2048.Idx → EReal := m ((c : Thread nD τ).loc main_arg2)
abbrev aZ (c : Dev nD) : S72x2048.Idx → EReal := m ((c : Thread nD τ).loc main_arg3)
abbrev aA (c : Dev nD) : S4608x64.Idx → EReal := m ((c : Thread nD τ).loc main_arg4)
abbrev aB (c : Dev nD) : S64x2048.Idx → EReal := m ((c : Thread nD τ).loc main_arg5)

/-- Row `N` of the flattened input. -/
def rowX (X : S4x1024x4608.Idx → EReal) (N : ℕ) (hN : N < 4096) : Fin 4608 → EReal :=
  fun d => X (ix3 ⟨N / 1024, by omega⟩ ⟨N % 1024, by omega⟩ d)

theorem V_main_v0 (c : Dev nD) (N : Fin 4096) (d : Fin 4608) :
    V m c main_v0 (ix2 N d) = rowX (aX m c) N.val N.isLt d := by
  have e : V m c main_v0 = shapeCast S4096x4608 (aX m c) shapeCasts_S4x1024x4608_S4096x4608 := by
    show StableHlo.after hostOps0 _ (Proc.devRef .tc main_v0) = _
    after_results
    rfl
  rw [e]
  refine shapeCast_apply _ _ _ _ ?_
  rw [Shape.rowMajor_val_three, Shape.rowMajor_val_two]
  show (N.val / 1024 * 1024 + N.val % 1024) * 4608 + d.val = N.val * 4608 + d.val
  have := Nat.div_add_mod N.val 1024
  rw [show N.val / 1024 * 1024 + N.val % 1024 = N.val by omega]

theorem V_main_v1 (c : Dev nD) (j : Fin 64) (d : Fin 4608) : V m c main_v1 (ix2 j d) = aA m c (ix2 d j) := by
  have e : V m c main_v1 = transpose S64x4608 [1, 0] (aA m c) transposes_S4608x64_S64x4608_1_0 := by
    show StableHlo.after hostOps0 _ (Proc.devRef .tc main_v1) = _
    after_results
  rw [e, transpose_ix2_apply]

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem N16 (t : Fin cfg0.N) : t.val < 16 := lt_of_lt_of_eq t.isLt (show cfg0.N = 16 from N_0)

theorem emb0 (t : Fin cfg0.N) (r : Fin 256) (d : Fin 4608) :
    ((cfg0.win 0).blk t).view.emb (ix2 r d) = ix2 (n0 := 4096) (n1 := 4608) ⟨256 * t.val + r.val, by have := N16 t; omega⟩ d := by
  obtain ⟨e0, e1⟩ := idx0 t
  funext a; apply Fin.ext
  match a with
  | ⟨0, _⟩ => show win0_0.index t (0 : Fin 2) * 256 + 1 * r.val = 256 * t.val + r.val; omega
  | ⟨1, _⟩ => show win0_0.index t (1 : Fin 2) * 4608 + 1 * d.val = d.val; omega

theorem emb1 (t : Fin cfg0.N) (j : S4608x1024.Idx) : ((cfg0.win 1).blk t).view.emb j = j := by
  obtain ⟨e0, e1⟩ := idx1 t
  funext a; apply Fin.ext
  match a with
  | ⟨0, _⟩ => show win0_1.index t (0 : Fin 2) * 4608 + 1 * (j 0).val = (j 0).val; omega
  | ⟨1, _⟩ => show win0_1.index t (1 : Fin 2) * 1024 + 1 * (j 1).val = (j 1).val; omega
theorem emb2 (t : Fin cfg0.N) (j : S72x2048.Idx) : ((cfg0.win 2).blk t).view.emb j = j := by
  obtain ⟨e0, e1⟩ := idx2 t
  funext a; apply Fin.ext
  match a with
  | ⟨0, _⟩ => show win0_2.index t (0 : Fin 2) * 72 + 1 * (j 0).val = (j 0).val; omega
  | ⟨1, _⟩ => show win0_2.index t (1 : Fin 2) * 2048 + 1 * (j 1).val = (j 1).val; omega
theorem emb3 (t : Fin cfg0.N) (j : S72x2048.Idx) : ((cfg0.win 3).blk t).view.emb j = j := by
  obtain ⟨e0, e1⟩ := idx3 t
  funext a; apply Fin.ext
  match a with
  | ⟨0, _⟩ => show win0_3.index t (0 : Fin 2) * 72 + 1 * (j 0).val = (j 0).val; omega
  | ⟨1, _⟩ => show win0_3.index t (1 : Fin 2) * 2048 + 1 * (j 1).val = (j 1).val; omega
theorem emb4 (t : Fin cfg0.N) (j : S64x4608.Idx) : ((cfg0.win 4).blk t).view.emb j = j := by
  obtain ⟨e0, e1⟩ := idx4 t
  funext a; apply Fin.ext
  match a with
  | ⟨0, _⟩ => show win0_4.index t (0 : Fin 2) * 64 + 1 * (j 0).val = (j 0).val; omega
  | ⟨1, _⟩ => show win0_4.index t (1 : Fin 2) * 4608 + 1 * (j 1).val = (j 1).val; omega
theorem emb5 (t : Fin cfg0.N) (j : S64x2048.Idx) : ((cfg0.win 5).blk t).view.emb j = j := by
  obtain ⟨e0, e1⟩ := idx5 t
  funext a; apply Fin.ext
  match a with
  | ⟨0, _⟩ => show win0_5.index t (0 : Fin 2) * 64 + 1 * (j 0).val = (j 0).val; omega
  | ⟨1, _⟩ => show win0_5.index t (1 : Fin 2) * 2048 + 1 * (j 1).val = (j 1).val; omega

theorem iblk0_at (c : Dev nD) (t : Fin cfg0.N) (r : Fin 256) (d : Fin 4608) :
    iblk m c 0 t (ix2 r d) = rowX (aX m c) (256 * t.val + r.val) (by have := N16 t; omega) d := by
  show V m c main_v0 (((cfg0.win 0).blk t).view.emb (ix2 r d)) = _
  rw [emb0]
  exact V_main_v0 m c _ d
theorem iblk1_eq (c : Dev nD) (t : Fin cfg0.N) : iblk m c 1 t = aP m c := by
  funext j; show V m c main_arg1 (((cfg0.win 1).blk t).view.emb j) = _; rw [emb1, V_main_arg1]
theorem iblk2_eq (c : Dev nD) (t : Fin cfg0.N) : iblk m c 2 t = aS m c := by
  funext j; show V m c main_arg2 (((cfg0.win 2).blk t).view.emb j) = _; rw [emb2, V_main_arg2]
theorem iblk3_eq (c : Dev nD) (t : Fin cfg0.N) : iblk m c 3 t = aZ m c := by
  funext j; show V m c main_arg3 (((cfg0.win 3).blk t).view.emb j) = _; rw [emb3, V_main_arg3]
theorem iblk4_at (c : Dev nD) (t : Fin cfg0.N) (j : Fin 64) (d : Fin 4608) : iblk m c 4 t (ix2 j d) = aA m c (ix2 d j) := by
  show V m c main_v1 (((cfg0.win 4).blk t).view.emb (ix2 j d)) = _
  rw [emb4]
  exact V_main_v1 m c j d
theorem iblk5_eq (c : Dev nD) (t : Fin cfg0.N) : iblk m c 5 t = aB m c := by
  funext j; show V m c main_arg5 (((cfg0.win 5).blk t).view.emb j) = _; rw [emb5, V_main_arg5]

/-- What every point leaves: its three output blocks and the weights. -/
def after (c : Dev nD) (t : Fin cfg0.N) :
    Vec Ideal S256x2048 .bf16 × Vec Ideal S256x2304 .i8 × Vec Ideal S1x72x256 .f32 × Vec Ideal S4608x2048 .bf16 :=
  (GY (iblk m c 0 t) (GW (aP m c) (aS m c) (aZ m c)) (iblk m c 4 t) (aB m c), GC (iblk m c 0 t), GT (iblk m c 0 t),
    GW (aP m c) (aS m c) (aZ m c))

theorem stA (c : Dev nD) (t : Fin cfg0.N) (acc) (h0 : t.val % 16 = 0) : stAt0 m c t.val t.isLt acc = after m c t := by
  rw [stAt0_A m c t acc h0, out_A_6, out_A_7, out_A_8, sout_A, iblk1_eq, iblk2_eq, iblk3_eq, iblk5_eq]
  rfl

theorem stB (c : Dev nD) (t : Fin cfg0.N) (acc) (h0 : ¬t.val % 16 = 0) (hacc : acc.2.2.2 = GW (aP m c) (aS m c) (aZ m c)) :
    stAt0 m c t.val t.isLt acc = after m c t := by
  rw [stAt0_B m c t acc h0, out_B_6, out_B_7, out_B_8, iblk5_eq, hacc]
  rfl

theorem outs (c : Dev nD) : ∀ (n : ℕ) (hn : n < cfg0.N), outsAt0 m c n hn = after m c ⟨n, hn⟩
  | 0, hn => (outsAt0_zero m c hn).trans (stA m c ⟨0, hn⟩ _ (Nat.zero_mod _))
  | n + 1, hn => by
    have h16 := N16 ⟨n + 1, hn⟩
    have h16' : n + 1 < 16 := h16
    rw [outsAt0_succ]
    refine stB m c ⟨n + 1, hn⟩ _ (by show ¬(n + 1) % 16 = 0; omega) ?_
    rw [outs c n]; rfl

theorem acc_eq (c : Dev nD) (n : ℕ) (hn : n < cfg0.N) (h) :
    Pipeline.accAt (fun n h => stAt0 m c n h junk0) (stAt0 m c) 0 n h = after m c ⟨n, hn⟩ :=
  (outsAt0_sweep m c n hn).symm.trans (outs m c n hn)

/-- The block's row is the array's. -/
theorem row_eq (c : Dev nD) (t : Fin cfg0.N) (r : Fin 256) (N : ℕ) (hN : N < 4096) (h : N = 256 * t.val + r.val) :
    (fun d => iblk m c 0 t (ix2 r d)) = rowX (aX m c) N hN := by
  subst h; exact funext fun d => iblk0_at m c t r d

theorem G6_at (c : Dev nD) (N : Fin 4096) (n : Fin 2048) :
    G6 m c (ix2 N n) = rowY (rowX (aX m c) N.val N.isLt)
      (wtAt (fun d k => aP m c (ix2 d k)) (fun g k => aS m c (ix2 g k)) (fun g k => aZ m c (ix2 g k)))
      (fun d j => aA m c (ix2 d j)) (fun j k => aB m c (ix2 j k)) n := by
  have hn := n.isLt
  have hN := N.isLt
  have hp : pt6Of (ix2 N n) = N.val / 256 := by
    show 1 * (N.val / 256 - 0) + 1 * (n.val / 2048 - 0) = _
    omega
  have hlt : N.val / 256 < cfg0.N := by rw [show cfg0.N = 16 from N_0]; omega
  unfold G6
  rw [dif_pos (by rw [hp]; exact hlt), acc_eq m c _ (by rw [hp]; exact hlt)]
  have ht : (⟨pt6Of (ix2 N n), by rw [hp]; exact hlt⟩ : Fin cfg0.N) = ⟨N.val / 256, hlt⟩ := Fin.ext hp
  rw [ht]
  have hl : loc6Of (ix2 N n) = ix2 (n0 := 256) (n1 := 2048) ⟨N.val % 256, by omega⟩ n := by
    funext a; apply Fin.ext
    match a with
    | ⟨0, _⟩ => rfl
    | ⟨1, _⟩ => show n.val % 2048 = n.val; omega
  rw [hl]
  have hr := row_eq m c ⟨N.val / 256, hlt⟩ ⟨N.val % 256, by omega⟩ N.val hN (by show N.val = 256 * (N.val / 256) + N.val % 256; omega)
  rw [← hr]
  show YW _ _ _ _ _ n = _
  unfold YW rowY
  refine congrArg₂ (· + ·) rfl (Finset.sum_congr rfl fun j _ => congrArg (· * _) (Finset.sum_congr rfl fun d _ => ?_))
  rw [iblk4_at, mul_comm]

theorem G7_at (c : Dev nD) (N : Fin 4096) (e : Fin 2304) :
    G7 m c (ix2 N e) = rowC (rowX (aX m c) N.val N.isLt) e := by
  have hn := e.isLt
  have hN := N.isLt
  have hp : pt7Of (ix2 N e) = N.val / 256 := by
    show 1 * (N.val / 256 - 0) + 1 * (e.val / 2304 - 0) = _
    omega
  have hlt : N.val / 256 < cfg0.N := by rw [show cfg0.N = 16 from N_0]; omega
  unfold G7
  rw [dif_pos (by rw [hp]; exact hlt), acc_eq m c _ (by rw [hp]; exact hlt)]
  have ht : (⟨pt7Of (ix2 N e), by rw [hp]; exact hlt⟩ : Fin cfg0.N) = ⟨N.val / 256, hlt⟩ := Fin.ext hp
  rw [ht]
  have hl : loc7Of (ix2 N e) = ix2 (n0 := 256) (n1 := 2304) ⟨N.val % 256, by omega⟩ e := by
    funext a; apply Fin.ext
    match a with
    | ⟨0, _⟩ => rfl
    | ⟨1, _⟩ => show e.val % 2304 = e.val; omega
  rw [hl]
  have hr := row_eq m c ⟨N.val / 256, hlt⟩ ⟨N.val % 256, by omega⟩ N.val hN (by show N.val = 256 * (N.val / 256) + N.val % 256; omega)
  rw [← hr]
  rfl

theorem G8_at (c : Dev nD) (b : Fin 4) (g : Fin 72) (s : Fin 1024) :
    G8 m c (ix3 b g s) = rowS (fun d => aX m c (ix3 b s d)) g := by
  have hb := b.isLt
  have hg := g.isLt
  have hs := s.isLt
  have hp : pt8Of (ix3 b g s) = 4 * b.val + s.val / 256 := by
    show 4 * (b.val / 1 - 0) + 4 * (g.val / 72 - 0) + 1 * (s.val / 256 - 0) = _
    omega
  have hlt : 4 * b.val + s.val / 256 < cfg0.N := by rw [show cfg0.N = 16 from N_0]; omega
  unfold G8
  rw [dif_pos (by rw [hp]; exact hlt), acc_eq m c _ (by rw [hp]; exact hlt)]
  have ht : (⟨pt8Of (ix3 b g s), by rw [hp]; exact hlt⟩ : Fin cfg0.N) = ⟨4 * b.val + s.val / 256, hlt⟩ := Fin.ext hp
  rw [ht]
  have hl : loc8Of (ix3 b g s) = ix3 (n0 := 1) (n1 := 72) (n2 := 256) 0 g ⟨s.val % 256, by omega⟩ := by
    funext a; apply Fin.ext
    match a with
    | ⟨0, _⟩ => show b.val % 1 = 0; omega
    | ⟨1, _⟩ => show g.val % 72 = g.val; omega
    | ⟨2, _⟩ => rfl
  rw [hl]
  have hr := row_eq m c ⟨4 * b.val + s.val / 256, hlt⟩ ⟨s.val % 256, by omega⟩ (1024 * b.val + s.val) (by omega)
    (by show 1024 * b.val + s.val = 256 * (4 * b.val + s.val / 256) + s.val % 256; omega)
  have hx : rowX (aX m c) (1024 * b.val + s.val) (by omega) = fun d => aX m c (ix3 b s d) := by
    funext d
    unfold rowX
    congr 2
    · exact Fin.ext (by show (1024 * b.val + s.val) / 1024 = b.val; omega)
    · exact Fin.ext (by show (1024 * b.val + s.val) % 1024 = s.val; omega)
  rw [← hx, ← hr]
  rfl

end Cert.KernelIdeal.Blk
-- ==== Proof.RefCodes.lean ====
/- The reference's scales, codes and packed codes, entry by entry, at the extended reals. -/
module

public import proofs.«01_k».proof.Proof.Gen.ReferenceIdeal.Read
public import proofs.«01_k».proof.Proof.Global
public import Idealize.ShloMosaic.Lib.Pointwise
public import Idealize.ShloMosaic.Lib.IdealHost

@[expose] public section

set_option maxRecDepth 100000

noncomputable section

namespace Cert.Spec

open Idealize.ShloMosaic

theorem seven_cast : (7 : EReal) = (((7 : ℤ) : ℝ) : EReal) := by norm_num; norm_cast
theorem neg_eight_cast : (-8 : EReal) = (((-8 : ℤ) : ℝ) : EReal) := by norm_num; norm_cast

/-- A code is an integer between −8 and 7. -/
theorem q_int (x s : EReal) : ∃ z : ℤ, -8 ≤ z ∧ z ≤ 7 ∧ qOf x s = ((z : ℝ) : EReal) := by
  unfold qOf
  generalize Ideal.div x s = y
  have e7 := seven_cast
  have e8 := neg_eight_cast
  have hm : Monotone fun z : ℤ => ((z : ℝ) : EReal) := fun a b h => EReal.coe_le_coe_iff.2 (Int.cast_le.2 h)
  induction y using EReal.rec with
  | bot =>
    refine ⟨-8, le_rfl, by norm_num, ?_⟩
    show min 7 (max (-8) ⊥) = _
    rw [max_eq_left bot_le, e7, e8]
    exact min_eq_right (hm (by norm_num))
  | top =>
    refine ⟨7, by norm_num, le_rfl, ?_⟩
    show min 7 (max (-8) ⊤) = _
    rw [max_eq_right le_top, e7]
    exact min_eq_left le_top
  | coe r =>
    refine ⟨min 7 (max (-8) (Ideal.roundHalfEven r)), by omega, by omega, ?_⟩
    show min 7 (max (-8) ((Ideal.roundHalfEven r : ℝ) : EReal)) = _
    rw [e7, e8]
    exact ((hm.map_min).trans (congrArg _ hm.map_max)).symm

theorem fptosi8 (z : ℤ) (h : -8 ≤ z) (h' : z ≤ 7) : Ideal.fptosi 8 ((z : ℝ) : EReal) = BitVec.ofInt 8 z := by
  unfold Ideal.fptosi
  rw [Ideal.toIntClamped_coe, Int.floor_intCast, Int.ceil_intCast, ite_self]
  congr 1
  show max (-128 : ℤ) (min (128 - 1) z) = z
  omega

theorem fptosi32 (z : ℤ) (h : -8 ≤ z) (h' : z ≤ 7) : Ideal.fptosi 32 ((z : ℝ) : EReal) = BitVec.ofInt 32 z := by
  unfold Ideal.fptosi
  rw [Ideal.toIntClamped_coe, Int.floor_intCast, Int.ceil_intCast, ite_self]
  congr 1
  show max (-2147483648 : ℤ) (min (2147483648 - 1) z) = z
  omega

/-- A code converted at thirty-two bits and cut to eight is the code converted at eight. -/
theorem cOf_32 (x s : EReal) : (Ideal.fptosi 32 (qOf x s)).setWidth 8 = cOf (qOf x s) := by
  obtain ⟨z, h, h', e⟩ := q_int x s
  unfold cOf
  rw [e, fptosi8 z h h', fptosi32 z h h']
  have : ∀ z : ℤ, -8 ≤ z → z ≤ 7 → (BitVec.ofInt 32 z).setWidth 8 = BitVec.ofInt 8 z := by
    intro z h h'; interval_cases z <;> decide
  exact this z h h'

/-- The integer read back is the code. -/
theorem cOf_back (x s : EReal) : ((((cOf (qOf x s)).signExtend 32).toInt : ℝ) : EReal) = qOf x s := by
  obtain ⟨z, h, h', e⟩ := q_int x s
  unfold cOf
  rw [e, fptosi8 z h h']
  have : ∀ z : ℤ, -8 ≤ z → z ≤ 7 → ((BitVec.ofInt 8 z).signExtend 32).toInt = z := by
    intro z h h'; interval_cases z <;> decide
  rw [this z h h']

/-- Packing at thirty-two bits and cutting to eight. -/
theorem pack_32 (a b : BitVec 8) : (IntOp.ori (IntOp.andi (a.signExtend 32) 15#32)
    (IntOp.shli .host (IntOp.andi (b.signExtend 32) 15#32) 4#32)).setWidth 8 = packOf a b := by
  have e : IntOp.shli .host (IntOp.andi (b.signExtend 32) 15#32) 4#32 = (b.signExtend 32 &&& 15#32) <<< 4 := rfl
  rw [e]
  show ((a.signExtend 32 &&& 15#32) ||| ((b.signExtend 32 &&& 15#32) <<< 4)).setWidth 8 = _
  apply BitVec.eq_of_getLsbD_eq; intro i hi
  unfold packOf
  interval_cases i <;> simp [BitVec.getElem_signExtend]

end Cert.Spec

namespace Cert.ReferenceIdeal.Ref

open Cert.ReferenceIdeal Cert.ReferenceIdeal.Gen Cert.ReferenceIdeal.Read Cert.Spec Idealize.ShloMosaic.ValueIdx
open Idealize.ShloMosaic hiding ix1 ix2 ix3 ix4

variable (x0 : S4x1024x4608.Idx → EReal)

/-- Row `(b, s)` of the input. -/
abbrev row (b : Fin 4) (s : Fin 1024) : Fin 4608 → EReal := fun d => x0 (ix3 b s d)

/-- Column `u` of group `g`. -/
abbrev col (g : Fin 72) (u : Fin 64) : Fin 4608 := ⟨64 * g.val + u.val, by have := g.isLt; have := u.isLt; omega⟩

theorem v1_at (b : Fin 4) (s : Fin 1024) (g : Fin 72) (u : Fin 64) :
    val_main_v1 (F := Ideal) x0 (ix4 b s g u) = x0 (ix3 b s (col g u)) := by
  rw [val_main_v1_apply, val_main_v0_apply]
  have := b.isLt; have := s.isLt; have := g.isLt; have := u.isLt
  refine congrArg x0 ?_
  funext a; apply Fin.ext
  match a with
  | ⟨0, _⟩ => show (((b.val * 1024 + s.val) * 72 + g.val) * 64 + u.val) / 4718592 = b.val; omega
  | ⟨1, _⟩ => show (((b.val * 1024 + s.val) * 72 + g.val) * 64 + u.val) / 4608 % 1024 = s.val; omega
  | ⟨2, _⟩ => show (((b.val * 1024 + s.val) * 72 + g.val) * 64 + u.val) % 4608 = 64 * g.val + u.val; omega

theorem v3_at (b : Fin 4) (s : Fin 1024) (g : Fin 72) :
    val_main_v3 (F := Ideal) x0 (ix3 b s g) = gmax fun u => x0 (ix3 b s (col g u)) := by
  have h : val_main_v3 (F := Ideal) x0 (ix3 b s g) =
      Finset.univ.fold max (Ideal.ofBits .f32 0xFF800000#32) fun u : Fin 64 => val_main_v2 (F := Ideal) x0 (ix4 b s g u) := by
    unfold val_main_v3
    generalize val_main_v2 (F := Ideal) x0 = y
    simp only [pointwise]
    rfl
  rw [h, ofBits_ninf]
  refine eq_of_forall_ge_iff fun y => ?_
  rw [Finset.fold_max_le, le_gmax]
  constructor
  · intro hy u
    have := hy.2 u (Finset.mem_univ u)
    rwa [val_main_v2_apply, v1_at] at this
  · intro hy
    refine ⟨bot_le, fun u _ => ?_⟩
    rw [val_main_v2_apply, v1_at]
    exact hy u

theorem v8_at (b : Fin 4) (s : Fin 1024) (g : Fin 72) :
    val_main_v8 (F := Ideal) x0 (ix3 b s g) = rowS (row x0 b s) g := by
  rw [val_main_v8_apply, val_main_v5_apply, val_main_v7_apply, v3_at, val_main_v4_apply, val_main_v6_apply,
    val_main_call0_v1_apply, val_main_call0_v0_apply, val_main_cst_0_apply, val_main_cst_1_apply, val_main_cst_2_apply]
  show Scalar.select (Ideal.cmp .ogt _ (Ideal.ofBits .f32 0x00000000#32)) (Ideal.div _ (Ideal.ofBits .f32 0x40E00000#32))
    (Ideal.ofBits .f32 0x3F800000#32) = _
  rw [ofBits_zero32, ofBits_seven, Ideal.ofBits_one_f32]
  unfold Ideal.cmp rowS scOf
  by_cases h : 0 < gmax fun u => x0 (ix3 b s (col g u))
  · simp only [h, decide_true, if_true]; rfl
  · simp only [h, decide_false, if_false]; rfl

theorem grpOf_col (g : Fin 72) (u : Fin 64) : grpOf (col g u) = g := by
  have := u.isLt
  exact Fin.ext (by show (64 * g.val + u.val) / 64 = g.val; omega)

theorem v13_at (b : Fin 4) (s : Fin 1024) (g : Fin 72) (u : Fin 64) :
    val_main_v13 (F := Ideal) x0 (ix4 b s g u) = rowQ (row x0 b s) (col g u) := by
  have h10 : val_main_v10 (F := Ideal) x0 (ix4 b s g u) = rowS (row x0 b s) g := by
    rw [val_main_v10_apply, val_main_v9_apply, ← v8_at]
    refine congrArg (val_main_v8 (F := Ideal) x0) ?_
    funext a; apply Fin.ext
    match a with
    | ⟨0, _⟩ => rfl
    | ⟨1, _⟩ => rfl
    | ⟨2, _⟩ => rfl
  rw [val_main_v13_apply, val_main_call2_v2_apply, val_main_v12_apply, val_main_v11_apply, h10, v1_at,
    val_main_call2_v4_apply, val_main_call2_v3_apply, val_main_c_3_apply,
    val_main_call2_v1_apply, val_main_call2_v0_apply, val_main_c_apply]
  unfold rowQ qOf
  rw [grpOf_col]
  have e7 : ((((7#32 : BitVec 32).toInt : ℝ)) : EReal) = 7 := by
    rw [show (7#32 : BitVec 32).toInt = 7 from by decide]; exact seven_cast.symm
  have e8 : ((((4294967288#32 : BitVec 32).toInt : ℝ)) : EReal) = -8 := by
    rw [show (4294967288#32 : BitVec 32).toInt = -8 from by decide]; exact neg_eight_cast.symm
  rw [← e7, ← e8]
  rfl

/-- The code of column `d`. -/
theorem v16_at (b : Fin 4) (s : Fin 1024) (d : Fin 4608) :
    val_main_v16 (F := Ideal) x0 (ix3 b s d) = cOf (rowQ (row x0 b s) d) := by
  have := b.isLt; have := s.isLt; have := d.isLt
  have e : idx_main_v16 (ix3 b s d) = ix4 b s (grpOf d) (⟨d.val % 64, by omega⟩ : Fin 64) := by
    funext a; apply Fin.ext
    match a with
    | ⟨0, _⟩ => show ((b.val * 1024 + s.val) * 4608 + d.val) / 4718592 = b.val; omega
    | ⟨1, _⟩ => show ((b.val * 1024 + s.val) * 4608 + d.val) / 4608 % 1024 = s.val; omega
    | ⟨2, _⟩ => show ((b.val * 1024 + s.val) * 4608 + d.val) / 64 % 72 = d.val / 64; omega
    | ⟨3, _⟩ => show ((b.val * 1024 + s.val) * 4608 + d.val) % 64 = d.val % 64; omega
  rw [val_main_v16_apply, e, val_main_v15_apply, val_main_v14_apply, v13_at]
  have ec : col (grpOf d) (⟨d.val % 64, by omega⟩ : Fin 64) = d :=
    Fin.ext (by show 64 * (d.val / 64) + d.val % 64 = d.val; omega)
  rw [ec]
  exact cOf_32 _ _

/-- Code · scale of column `d`. -/
theorem v25_at (b : Fin 4) (s : Fin 1024) (d : Fin 4608) :
    val_main_v25 (F := Ideal) x0 (ix3 b s d) = rowQ (row x0 b s) d * rowS (row x0 b s) (grpOf d) := by
  have := b.isLt; have := s.isLt; have := d.isLt
  have e : idx_main_v25 (ix3 b s d) = ix4 b s (grpOf d) (⟨d.val % 64, by omega⟩ : Fin 64) := by
    funext a; apply Fin.ext
    match a with
    | ⟨0, _⟩ => show ((b.val * 1024 + s.val) * 4608 + d.val) / 4718592 = b.val; omega
    | ⟨1, _⟩ => show ((b.val * 1024 + s.val) * 4608 + d.val) / 4608 % 1024 = s.val; omega
    | ⟨2, _⟩ => show ((b.val * 1024 + s.val) * 4608 + d.val) / 64 % 72 = d.val / 64; omega
    | ⟨3, _⟩ => show ((b.val * 1024 + s.val) * 4608 + d.val) % 64 = d.val % 64; omega
  rw [val_main_v25_apply, e, val_main_v24_apply]
  have h23 : val_main_v23 (F := Ideal) x0 (ix4 b s (grpOf d) (⟨d.val % 64, by omega⟩ : Fin 64)) = rowS (row x0 b s) (grpOf d) := by
    rw [val_main_v23_apply, val_main_v22_apply, val_main_v21_apply, ← v8_at]
    refine congrArg (val_main_v8 (F := Ideal) x0) ?_
    funext a; apply Fin.ext
    match a with
    | ⟨0, _⟩ => rfl
    | ⟨1, _⟩ => rfl
    | ⟨2, _⟩ => rfl
  have h20 : val_main_v20 (F := Ideal) x0 (ix4 b s (grpOf d) (⟨d.val % 64, by omega⟩ : Fin 64)) = rowQ (row x0 b s) d := by
    have e2 : idx_main_v20 (ix4 b s (grpOf d) (⟨d.val % 64, by omega⟩ : Fin 64)) = ix3 b s d := by
      funext a; apply Fin.ext
      match a with
      | ⟨0, _⟩ => show (((b.val * 1024 + s.val) * 72 + d.val / 64) * 64 + d.val % 64) / 4718592 = b.val; omega
      | ⟨1, _⟩ => show (((b.val * 1024 + s.val) * 72 + d.val / 64) * 64 + d.val % 64) / 4608 % 1024 = s.val; omega
      | ⟨2, _⟩ => show (((b.val * 1024 + s.val) * 72 + d.val / 64) * 64 + d.val % 64) % 4608 = d.val; omega
    rw [val_main_v20_apply, e2, val_main_v19_apply, val_main_v18_apply, val_main_v17_apply, v16_at]
    exact cOf_back _ _
  rw [h23, h20]
  rfl

/-- The packed codes. -/
theorem v78_at (N : Fin 4096) (e : Fin 2304) :
    val_main_v78 (F := Ideal) x0 (ix2 N e) = rowC (row x0 ⟨N.val / 1024, by have := N.isLt; omega⟩ ⟨N.val % 1024, by omega⟩) e := by
  have := N.isLt; have := e.isLt
  have ei : idx_main_v78 (ix2 N e) = ix3 (⟨N.val / 1024, by omega⟩ : Fin 4) (⟨N.val % 1024, by omega⟩ : Fin 1024) e := by
    funext a; apply Fin.ext
    match a with
    | ⟨0, _⟩ => show (N.val * 2304 + e.val) / 2359296 = N.val / 1024; omega
    | ⟨1, _⟩ => show (N.val * 2304 + e.val) / 2304 % 1024 = N.val % 1024; omega
    | ⟨2, _⟩ => show (N.val * 2304 + e.val) % 2304 = e.val; omega
  rw [val_main_v78_apply, ei]
  generalize (⟨N.val / 1024, by omega⟩ : Fin 4) = b
  generalize (⟨N.val % 1024, by omega⟩ : Fin 1024) = s
  have h71 : ∀ d : Fin 4608, val_main_v71 (F := Ideal) x0 (ix3 b s d) = IntOp.andi ((cOf (rowQ (row x0 b s) d)).signExtend 32) 15#32 := by
    intro d
    rw [val_main_v71_apply, val_main_v69_apply, v16_at, val_main_v70_apply, val_main_c_6_apply]
  have h72 : val_main_v72 (F := Ideal) x0 (ix3 b s e) = val_main_v71 (F := Ideal) x0 (ix3 b s (⟨2 * e.val, by omega⟩ : Fin 4608)) := by
    unfold val_main_v72
    generalize val_main_v71 (F := Ideal) x0 = y
    rw [Host.slice_apply]
    refine congrArg y ?_
    funext a; apply Fin.ext
    match a with
    | ⟨0, _⟩ => show 0 + 1 * b.val = b.val; omega
    | ⟨1, _⟩ => show 0 + 1 * s.val = s.val; omega
    | ⟨2, _⟩ => show 0 + 2 * e.val = 2 * e.val; omega
  have h73 : val_main_v73 (F := Ideal) x0 (ix3 b s e) = val_main_v71 (F := Ideal) x0 (ix3 b s (⟨2 * e.val + 1, by omega⟩ : Fin 4608)) := by
    unfold val_main_v73
    generalize val_main_v71 (F := Ideal) x0 = y
    rw [Host.slice_apply]
    refine congrArg y ?_
    funext a; apply Fin.ext
    match a with
    | ⟨0, _⟩ => show 0 + 1 * b.val = b.val; omega
    | ⟨1, _⟩ => show 0 + 1 * s.val = s.val; omega
    | ⟨2, _⟩ => show 1 + 2 * e.val = 2 * e.val + 1; omega
  rw [val_main_v77_apply, val_main_v76_apply, val_main_v75_apply, val_main_v74_apply, val_main_c_7_apply, h72, h73, h71, h71]
  exact pack_32 _ _

/-- The scales. -/
theorem v79_at (b : Fin 4) (g : Fin 72) (s : Fin 1024) :
    val_main_v79 (F := Ideal) x0 (ix3 b g s) = rowS (row x0 b s) g := by
  rw [val_main_v79_apply, ← v8_at]
  refine congrArg (val_main_v8 (F := Ideal) x0) ?_
  funext a; apply Fin.ext
  match a with
  | ⟨0, _⟩ => rfl
  | ⟨1, _⟩ => rfl
  | ⟨2, _⟩ => rfl

end Cert.ReferenceIdeal.Ref
-- ==== Proof.RefVal.lean ====
/- The reference's weights and its output, entry by entry, at the extended reals. -/
module

public import proofs.«01_k».proof.Proof.RefCodes

@[expose] public section

set_option maxRecDepth 100000

noncomputable section

namespace Cert.ReferenceIdeal.Ref

open Cert.ReferenceIdeal Cert.ReferenceIdeal.Gen Cert.ReferenceIdeal.Read Cert.Spec Idealize.ShloMosaic.ValueIdx
open Idealize.ShloMosaic hiding ix1 ix2 ix3 ix4

variable (x0 : S4x1024x4608.Idx → EReal) (x1 : S4608x1024.Idx → BitVec 8) (x2 x3 : S72x2048.Idx → EReal)
variable (x4 : S4608x64.Idx → EReal) (x5 : S64x2048.Idx → EReal)

/-- The weights, from the arguments. -/
abbrev wts : Fin 4608 → Fin 2048 → EReal :=
  wtAt (fun d k => x1 (ix2 d k)) (fun g k => x2 (ix2 g k)) (fun g k => x3 (ix2 g k))

theorem nib_lo : ∀ b : BitVec 8, (IntOp.andi (b.setWidth 32) 15#32).toInt = (nibOf b 0).toInt := by decide

theorem nib_hi : ∀ b : BitVec 8, (IntOp.shrsi .host (b.setWidth 32) 4#32).toInt = (nibOf b 1).toInt := by decide

theorem lo_z (g : Fin 72) (k : Fin 1024) : val_main_v30 (F := Ideal) x3 (ix2 g k) =
    x3 (ix2 g (⟨2 * k.val + 0, by have := k.isLt; omega⟩ : Fin 2048)) := by
  unfold val_main_v30
  rw [Host.slice_apply]
  refine congrArg x3 ?_
  funext a; apply Fin.ext
  match a with
  | ⟨0, _⟩ => show 0 + 1 * g.val = g.val; omega
  | ⟨1, _⟩ => show 0 + 2 * k.val = 2 * k.val + 0; omega

theorem lo_s (g : Fin 72) (k : Fin 1024) : val_main_v29 (F := Ideal) x2 (ix2 g k) =
    x2 (ix2 g (⟨2 * k.val + 0, by have := k.isLt; omega⟩ : Fin 2048)) := by
  unfold val_main_v29
  rw [Host.slice_apply]
  refine congrArg x2 ?_
  funext a; apply Fin.ext
  match a with
  | ⟨0, _⟩ => show 0 + 1 * g.val = g.val; omega
  | ⟨1, _⟩ => show 0 + 2 * k.val = 2 * k.val + 0; omega

theorem v41_at (d : Fin 4608) (k : Fin 1024) :
    val_main_v41 (F := Ideal) x1 x2 x3 (ix2 d k) = wts x1 x2 x3 d (⟨2 * k.val + 0, by have := k.isLt; omega⟩ : Fin 2048) := by
  have := d.isLt; have := k.isLt
  have e : idx_main_v41 (ix2 d k) = ix3 (grpOf d) (⟨d.val % 64, by omega⟩ : Fin 64) k := by
    funext a; apply Fin.ext
    match a with
    | ⟨0, _⟩ => show (d.val * 1024 + k.val) / 65536 = d.val / 64; omega
    | ⟨1, _⟩ => show (d.val * 1024 + k.val) / 1024 % 64 = d.val % 64; omega
    | ⟨2, _⟩ => show (d.val * 1024 + k.val) % 1024 = k.val; omega
  have e1 : idx_main_v33 (ix3 (grpOf d) (⟨d.val % 64, by omega⟩ : Fin 64) k) = ix2 d k := by
    funext a; apply Fin.ext
    match a with
    | ⟨0, _⟩ => show ((d.val / 64 * 64 + d.val % 64) * 1024 + k.val) / 1024 = d.val; omega
    | ⟨1, _⟩ => show ((d.val / 64 * 64 + d.val % 64) * 1024 + k.val) % 1024 = k.val; omega
  have hz : val_main_v35 (F := Ideal) x3 (ix3 (grpOf d) (⟨d.val % 64, by omega⟩ : Fin 64) k) = val_main_v30 (F := Ideal) x3 (ix2 (grpOf d) k) := by
    rw [val_main_v35_apply, val_main_v34_apply]
    refine congrArg (val_main_v30 (F := Ideal) x3) ?_
    funext a; apply Fin.ext
    match a with
    | ⟨0, _⟩ => rfl
    | ⟨1, _⟩ => rfl
  have hs : val_main_v39 (F := Ideal) x2 (ix3 (grpOf d) (⟨d.val % 64, by omega⟩ : Fin 64) k) = val_main_v29 (F := Ideal) x2 (ix2 (grpOf d) k) := by
    rw [val_main_v39_apply, val_main_v38_apply]
    refine (congrArg (val_main_v37 (F := Ideal) x2) (?_ : _ = ix2 (grpOf d) k)).trans rfl
    funext a; apply Fin.ext
    match a with
    | ⟨0, _⟩ => rfl
    | ⟨1, _⟩ => rfl
  rw [val_main_v41_apply, e, val_main_v40_apply, val_main_v36_apply, hz, hs, val_main_v33_apply, e1, val_main_v32_apply, val_main_v31_apply, val_main_v28_apply, val_main_v26_apply, val_main_v27_apply, val_main_c_4_apply, lo_z, lo_s]
  unfold wts wtAt wOf
  have en : (2 * k.val + 0) / 2 = k.val := by omega
  have em : (2 * k.val + 0) % 2 = 0 := by omega
  simp only [en, em]
  rw [← nib_lo]
  rfl

theorem hi_z (g : Fin 72) (k : Fin 1024) : val_main_v45 (F := Ideal) x3 (ix2 g k) =
    x3 (ix2 g (⟨2 * k.val + 1, by have := k.isLt; omega⟩ : Fin 2048)) := by
  unfold val_main_v45
  rw [Host.slice_apply]
  refine congrArg x3 ?_
  funext a; apply Fin.ext
  match a with
  | ⟨0, _⟩ => show 0 + 1 * g.val = g.val; omega
  | ⟨1, _⟩ => show 1 + 2 * k.val = 2 * k.val + 1; omega

theorem hi_s (g : Fin 72) (k : Fin 1024) : val_main_v44 (F := Ideal) x2 (ix2 g k) =
    x2 (ix2 g (⟨2 * k.val + 1, by have := k.isLt; omega⟩ : Fin 2048)) := by
  unfold val_main_v44
  rw [Host.slice_apply]
  refine congrArg x2 ?_
  funext a; apply Fin.ext
  match a with
  | ⟨0, _⟩ => show 0 + 1 * g.val = g.val; omega
  | ⟨1, _⟩ => show 1 + 2 * k.val = 2 * k.val + 1; omega

theorem v56_at (d : Fin 4608) (k : Fin 1024) :
    val_main_v56 (F := Ideal) x1 x2 x3 (ix2 d k) = wts x1 x2 x3 d (⟨2 * k.val + 1, by have := k.isLt; omega⟩ : Fin 2048) := by
  have := d.isLt; have := k.isLt
  have e : idx_main_v56 (ix2 d k) = ix3 (grpOf d) (⟨d.val % 64, by omega⟩ : Fin 64) k := by
    funext a; apply Fin.ext
    match a with
    | ⟨0, _⟩ => show (d.val * 1024 + k.val) / 65536 = d.val / 64; omega
    | ⟨1, _⟩ => show (d.val * 1024 + k.val) / 1024 % 64 = d.val % 64; omega
    | ⟨2, _⟩ => show (d.val * 1024 + k.val) % 1024 = k.val; omega
  have e1 : idx_main_v48 (ix3 (grpOf d) (⟨d.val % 64, by omega⟩ : Fin 64) k) = ix2 d k := by
    funext a; apply Fin.ext
    match a with
    | ⟨0, _⟩ => show ((d.val / 64 * 64 + d.val % 64) * 1024 + k.val) / 1024 = d.val; omega
    | ⟨1, _⟩ => show ((d.val / 64 * 64 + d.val % 64) * 1024 + k.val) % 1024 = k.val; omega
  have hz : val_main_v50 (F := Ideal) x3 (ix3 (grpOf d) (⟨d.val % 64, by omega⟩ : Fin 64) k) = val_main_v45 (F := Ideal) x3 (ix2 (grpOf d) k) := by
    rw [val_main_v50_apply, val_main_v49_apply]
    refine congrArg (val_main_v45 (F := Ideal) x3) ?_
    funext a; apply Fin.ext
    match a with
    | ⟨0, _⟩ => rfl
    | ⟨1, _⟩ => rfl
  have hs : val_main_v54 (F := Ideal) x2 (ix3 (grpOf d) (⟨d.val % 64, by omega⟩ : Fin 64) k) = val_main_v44 (F := Ideal) x2 (ix2 (grpOf d) k) := by
    rw [val_main_v54_apply, val_main_v53_apply]
    refine (congrArg (val_main_v52 (F := Ideal) x2) (?_ : _ = ix2 (grpOf d) k)).trans rfl
    funext a; apply Fin.ext
    match a with
    | ⟨0, _⟩ => rfl
    | ⟨1, _⟩ => rfl
  rw [val_main_v56_apply, e, val_main_v55_apply, val_main_v51_apply, hz, hs, val_main_v48_apply, e1, val_main_v47_apply, val_main_v46_apply, val_main_v43_apply, val_main_v26_apply, val_main_v42_apply, val_main_c_5_apply, hi_z, hi_s]
  unfold wts wtAt wOf
  have en : (2 * k.val + 1) / 2 = k.val := by omega
  have em : (2 * k.val + 1) % 2 = 1 := by omega
  simp only [en, em]
  rw [← nib_hi]
  rfl

theorem v57_at (b : Fin 4) (s : Fin 1024) (k : Fin 1024) : val_main_v57 (F := Ideal) x0 x1 x2 x3 (ix3 b s k) =
    ∑ d : Fin 4608, rowQ (row x0 b s) d * rowS (row x0 b s) (grpOf d) * wts x1 x2 x3 d (⟨2 * k.val + 0, by have := k.isLt; omega⟩ : Fin 2048) := by
  rw [val_main_v57_apply]
  refine Finset.sum_congr rfl fun d _ => ?_
  rw [← v25_at, ← v41_at]
  refine congrArg₂ (· * ·) (congrArg _ ?_) (congrArg _ ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem v58_at (b : Fin 4) (s : Fin 1024) (k : Fin 1024) : val_main_v58 (F := Ideal) x0 x1 x2 x3 (ix3 b s k) =
    ∑ d : Fin 4608, rowQ (row x0 b s) d * rowS (row x0 b s) (grpOf d) * wts x1 x2 x3 d (⟨2 * k.val + 1, by have := k.isLt; omega⟩ : Fin 2048) := by
  rw [val_main_v58_apply]
  refine Finset.sum_congr rfl fun d _ => ?_
  rw [← v25_at, ← v56_at]
  refine congrArg₂ (· * ·) (congrArg _ ?_) (congrArg _ ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- The even and the odd columns, interleaved. -/
theorem v62_at (b : Fin 4) (s : Fin 1024) (n : Fin 2048) : val_main_v62 (F := Ideal) x0 x1 x2 x3 (ix3 b s n) =
    ∑ d : Fin 4608, rowQ (row x0 b s) d * rowS (row x0 b s) (grpOf d) * wts x1 x2 x3 d n := by
  have := b.isLt; have := s.isLt; have := n.isLt
  have e : idx_main_v62 (ix3 b s n) = ix4 b s (⟨n.val / 2, by omega⟩ : Fin 1024) (⟨n.val % 2, by omega⟩ : Fin 2) := by
    funext a; apply Fin.ext
    match a with
    | ⟨0, _⟩ => show ((b.val * 1024 + s.val) * 2048 + n.val) / 2097152 = b.val; omega
    | ⟨1, _⟩ => show ((b.val * 1024 + s.val) * 2048 + n.val) / 2048 % 1024 = s.val; omega
    | ⟨2, _⟩ => show ((b.val * 1024 + s.val) * 2048 + n.val) / 2 % 1024 = n.val / 2; omega
    | ⟨3, _⟩ => show ((b.val * 1024 + s.val) * 2048 + n.val) % 2 = n.val % 2; omega
  have h59 : val_main_v59 (F := Ideal) x0 x1 x2 x3 (ix4 b s (⟨n.val / 2, by omega⟩ : Fin 1024) (0 : Fin 1)) =
      val_main_v57 (F := Ideal) x0 x1 x2 x3 (ix3 b s (⟨n.val / 2, by omega⟩ : Fin 1024)) := by
    rw [val_main_v59_apply]
    refine congrArg _ ?_
    funext a; apply Fin.ext
    match a with
    | ⟨0, _⟩ => rfl
    | ⟨1, _⟩ => rfl
    | ⟨2, _⟩ => rfl
  have h60 : val_main_v60 (F := Ideal) x0 x1 x2 x3 (ix4 b s (⟨n.val / 2, by omega⟩ : Fin 1024) (0 : Fin 1)) =
      val_main_v58 (F := Ideal) x0 x1 x2 x3 (ix3 b s (⟨n.val / 2, by omega⟩ : Fin 1024)) := by
    rw [val_main_v60_apply]
    refine congrArg _ ?_
    funext a; apply Fin.ext
    match a with
    | ⟨0, _⟩ => rfl
    | ⟨1, _⟩ => rfl
    | ⟨2, _⟩ => rfl
  rw [val_main_v62_apply, e]
  unfold val_main_v61
  rcases Nat.mod_two_eq_zero_or_one n.val with h | h
  · have hn : (⟨2 * (n.val / 2) + 0, by omega⟩ : Fin 2048) = n := Fin.ext (by show 2 * (n.val / 2) + 0 = n.val; omega)
    have hv : val_main_v57 (F := Ideal) x0 x1 x2 x3 (ix3 b s (⟨n.val / 2, by omega⟩ : Fin 1024)) = _ := v57_at x0 x1 x2 x3 b s ⟨n.val / 2, by omega⟩
    rw [hn] at hv
    rw [← hv, ← h59]
    refine concatenate_pair_apply_left (t := S4x1024x1024x2) (3 : Fin 4) (val_main_v59 (F := Ideal) x0 x1 x2 x3)
      (val_main_v60 (F := Ideal) x0 x1 x2 x3) concatenates_S4x1024x1024x1_S4x1024x1024x1_S4x1024x1024x2_d3 _ rfl (ix4 b s (⟨n.val / 2, by omega⟩ : Fin 1024) (0 : Fin 1)) ?_
    intro a
    match a with
    | ⟨0, _⟩ => rfl
    | ⟨1, _⟩ => rfl
    | ⟨2, _⟩ => rfl
    | ⟨3, _⟩ => show 0 = n.val % 2; omega
  · have hn : (⟨2 * (n.val / 2) + 1, by omega⟩ : Fin 2048) = n := Fin.ext (by show 2 * (n.val / 2) + 1 = n.val; omega)
    have hv : val_main_v58 (F := Ideal) x0 x1 x2 x3 (ix3 b s (⟨n.val / 2, by omega⟩ : Fin 1024)) = _ := v58_at x0 x1 x2 x3 b s ⟨n.val / 2, by omega⟩
    rw [hn] at hv
    rw [← hv, ← h60]
    refine concatenate_pair_apply_right (t := S4x1024x1024x2) (3 : Fin 4) (val_main_v59 (F := Ideal) x0 x1 x2 x3)
      (val_main_v60 (F := Ideal) x0 x1 x2 x3) concatenates_S4x1024x1024x1_S4x1024x1024x1_S4x1024x1024x2_d3 _ rfl rfl (ix4 b s (⟨n.val / 2, by omega⟩ : Fin 1024) (0 : Fin 1)) ?_ ?_
    · intro a ha
      match a with
      | ⟨0, _⟩ => rfl
      | ⟨1, _⟩ => rfl
      | ⟨2, _⟩ => rfl
      | ⟨3, _⟩ => exact absurd rfl ha
    · show 0 + 1 = n.val % 2
      omega

/-- The low-rank product. -/
theorem v65_at (b : Fin 4) (s : Fin 1024) (n : Fin 2048) : val_main_v65 (F := Ideal) x0 x4 x5 (ix3 b s n) =
    ∑ j : Fin 64, (∑ d : Fin 4608, row x0 b s d * x4 (ix2 d j)) * x5 (ix2 j n) := by
  rw [val_main_v65_apply]
  refine Finset.sum_congr rfl fun j _ => congrArg₂ (· * ·) ?_ (congrArg x5 ?_)
  · rw [val_main_v64_apply]
    show val_main_v63 (F := Ideal) x0 x4 _ = _
    rw [val_main_v63_apply]
    refine Finset.sum_congr rfl fun d _ => congrArg₂ (· * ·) (congrArg x0 ?_) (congrArg x4 ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl
  · funext a; apply Fin.ext
    match a with
    | ⟨0, _⟩ => rfl
    | ⟨1, _⟩ => rfl

/-- The output. -/
theorem v68_at (N : Fin 4096) (n : Fin 2048) : val_main_v68 (F := Ideal) x0 x1 x2 x3 x4 x5 (ix2 N n) =
    rowY (row x0 ⟨N.val / 1024, by have := N.isLt; omega⟩ ⟨N.val % 1024, by omega⟩) (wts x1 x2 x3) (fun d j => x4 (ix2 d j))
      (fun j k => x5 (ix2 j k)) n := by
  have := N.isLt; have := n.isLt
  have ei : idx_main_v68 (ix2 N n) = ix3 (⟨N.val / 1024, by omega⟩ : Fin 4) (⟨N.val % 1024, by omega⟩ : Fin 1024) n := by
    funext a; apply Fin.ext
    match a with
    | ⟨0, _⟩ => show (N.val * 2048 + n.val) / 2097152 = N.val / 1024; omega
    | ⟨1, _⟩ => show (N.val * 2048 + n.val) / 2048 % 1024 = N.val % 1024; omega
    | ⟨2, _⟩ => show (N.val * 2048 + n.val) % 2048 = n.val; omega
  rw [val_main_v68_apply, ei, val_main_v67_apply, val_main_v66_apply, v62_at, v65_at]
  rfl

end Cert.ReferenceIdeal.Ref
-- ==== Proof.Algebra.lean ====
/- The value claim: at the extended reals the kernel's three results are the reference's. -/
module

public import proofs.«01_k».proof.Defs
public import proofs.«01_k».proof.Proof.Final
public import proofs.«01_k».proof.Proof.RefVal
public import Idealize.ShloMosaic.Lib.Quiescent

@[expose] public section

set_option maxRecDepth 100000

noncomputable section

namespace Cert.Proof

open Idealize.ShloMosaic.TcCoe Idealize.SL.Sem Idealize.ShloMosaic.ValueIdx
open Idealize.ShloMosaic hiding ix1 ix2 ix3 ix4 eq_ix2 eq_ix3

variable (m : (ℓ : Loc Cert.KernelIdeal.nD Cert.KernelIdeal.τ Cert.KernelIdeal.sig) → Buf (Elt Ideal) ℓ) (c : Dev Cert.KernelIdeal.nD)

open Cert.KernelIdeal.Blk in
theorem y_eq : Cert.ReferenceIdeal.Read.val_main_v68 (F := Ideal) (aX m c) (aP m c) (aS m c) (aZ m c) (aA m c) (aB m c) =
    Cert.KernelIdeal.Value.G6 m c := by
  funext i
  obtain ⟨N, n, rfl⟩ : ∃ (N : Fin 4096) (n : Fin 2048), i = ix2 N n := ⟨i 0, i 1, eq_ix2 i⟩
  rw [Cert.ReferenceIdeal.Ref.v68_at, G6_at]
  rfl

open Cert.KernelIdeal.Blk in
theorem c_eq : Cert.ReferenceIdeal.Read.val_main_v78 (F := Ideal) (aX m c) = Cert.KernelIdeal.Value.G7 m c := by
  funext i
  obtain ⟨N, n, rfl⟩ : ∃ (N : Fin 4096) (n : Fin 2304), i = ix2 N n := ⟨i 0, i 1, eq_ix2 i⟩
  rw [Cert.ReferenceIdeal.Ref.v78_at, G7_at]
  rfl

open Cert.KernelIdeal.Blk in
theorem s_eq : Cert.ReferenceIdeal.Read.val_main_v79 (F := Ideal) (aX m c) = Cert.KernelIdeal.Value.G8 m c := by
  funext i
  obtain ⟨b, g, s, rfl⟩ : ∃ (b : Fin 4) (g : Fin 72) (s : Fin 1024), i = ix3 b g s := ⟨i 0, i 1, i 2, eq_ix3 i⟩
  rw [Cert.ReferenceIdeal.Ref.v79_at, G8_at]

theorem algebraic : Cert.algebraic_KernelIdeal_ReferenceIdeal := by
  intro m g m' g' _ hagree
  refine ⟨fun c => Cert.KernelIdeal.Value.G6 m c, fun c => Cert.KernelIdeal.Value.G7 m c, fun c => Cert.KernelIdeal.Value.G8 m c,
    Cert.KernelIdeal.Value.run m g, ?_⟩
  refine (θ_run Cert.ReferenceIdeal.defs _ _).mono (fun r h c => ?_) (Cert.ReferenceIdeal.Value.run (F := Ideal) m' g')
  obtain ⟨a0, a1, a2, a3, a4, a5⟩ := hagree c
  obtain ⟨h0, h1, h2, hr⟩ := h c
  refine ⟨?_, ?_, ?_, hr⟩
  · rw [h0, Cert.ReferenceIdeal.Read.val_main_v68_eq, a0, a1, a2, a3, a4, a5]
    exact y_eq m c
  · refine (h1.trans (Cert.ReferenceIdeal.Read.val_main_v78_eq _)).trans ?_
    rw [a0]
    exact c_eq m c
  · refine (h2.trans (Cert.ReferenceIdeal.Read.val_main_v79_eq _)).trans ?_
    rw [a0]
    exact s_eq m c

theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
